-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x50 : Shape := ⟨2, ![4096, 50]⟩
abbrev S1000000x64 : Shape := ⟨2, ![1000000, 64]⟩
abbrev S3328x1024 : Shape := ⟨2, ![3328, 1024]⟩
abbrev S1024 : Shape := ⟨1, ![1024]⟩
abbrev S1024x1000 : Shape := ⟨2, ![1024, 1000]⟩
abbrev S1000 : Shape := ⟨1, ![1000]⟩
abbrev S_ : Shape := ⟨0, ![]⟩

class Facts : Prop where
  bcast_S_S4096x50 : S_.BroadcastsInDim S4096x50 (![] : Fin 0 → Fin S4096x50.rank)
  reducesTo_S4096x50_S_d0_1 : S4096x50.ReducesTo [0, 1] S_
  h_S_ : 0 < S_.numel

variable [Facts]

def fn {F : FTy → Type} [FloatOps F] (main_arg0 : IVec S4096x50 32) (main_arg1 : FVec F S1000000x64 .f32) (main_arg2 : FVec F S3328x1024 .f32) (main_arg3 : FVec F S1024 .f32) (main_arg4 : FVec F S1024x1000 .f32) (main_arg5 : FVec F S1000 .f32) : IVec S_ 1 :=
  let main_c : IVec S_ 32 := constantI S_ 32 0#32
  let main_v0 : IVec S4096x50 32 := broadcastInDim S4096x50 ![] bcast_S_S4096x50 main_c
  let main_v1 : IVec S4096x50 1 := cmpi .sge main_arg0 main_v0
  let main_c_0 : IVec S_ 32 := constantI S_ 32 1000000#32
  let main_v2 : IVec S4096x50 32 := broadcastInDim S4096x50 ![] bcast_S_S4096x50 main_c_0
  let main_v3 : IVec S4096x50 1 := cmpi .slt main_arg0 main_v2
  let main_v4 : IVec S4096x50 1 := andi main_v1 main_v3
  let main_c_1 : IVec S_ 1 := constantI S_ 1 1#1
  let main_v5 : IVec S_ 1 := (fun x v => Host.reduce IntOp.andi x v reducesTo_S4096x50_S_d0_1 h_S_) main_v4 main_c_1
  main_v5
-- ==== Kernel.lean ====
abbrev S4096x50 : Shape := ⟨2, ![4096, 50]⟩
abbrev S1000000x64 : Shape := ⟨2, ![1000000, 64]⟩
abbrev S3328x1024 : Shape := ⟨2, ![3328, 1024]⟩
abbrev S1024 : Shape := ⟨1, ![1024]⟩
abbrev S1024x1000 : Shape := ⟨2, ![1024, 1000]⟩
abbrev S1000 : Shape := ⟨1, ![1000]⟩
abbrev S16x256x50 : Shape := ⟨3, ![16, 256, 50]⟩
abbrev S16x50x256 : Shape := ⟨3, ![16, 50, 256]⟩
abbrev S1x204800 : Shape := ⟨2, ![1, 204800]⟩
abbrev S_ : Shape := ⟨0, ![]⟩
abbrev S4096x64 : Shape := ⟨2, ![4096, 64]⟩
abbrev S500000x128 : Shape := ⟨2, ![500000, 128]⟩
abbrev S20000x64 : Shape := ⟨2, ![20000, 64]⟩
abbrev S10000x128 : Shape := ⟨2, ![10000, 128]⟩
abbrev S10000x2x64 : Shape := ⟨3, ![10000, 2, 64]⟩
abbrev S10000x1x64 : Shape := ⟨3, ![10000, 1, 64]⟩
abbrev S10000x64 : Shape := ⟨2, ![10000, 64]⟩
abbrev S204800x128 : Shape := ⟨2, ![204800, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S1x64 : Shape := ⟨2, ![1, 64]⟩
abbrev S1x1024 : Shape := ⟨2, ![1, 1024]⟩
abbrev S1x1000 : Shape := ⟨2, ![1, 1000]⟩
abbrev S4096x1000 : Shape := ⟨2, ![4096, 1000]⟩
abbrev S12800x128 : Shape := ⟨2, ![12800, 128]⟩
abbrev S256x64 : Shape := ⟨2, ![256, 64]⟩
abbrev S256x1000 : Shape := ⟨2, ![256, 1000]⟩
abbrev S256x3456 : Shape := ⟨2, ![256, 3456]⟩
abbrev S256x1 : Shape := ⟨2, ![256, 1]⟩
abbrev S256x128 : Shape := ⟨2, ![256, 128]⟩
abbrev S256x3328 : Shape := ⟨2, ![256, 3328]⟩
abbrev S256x1024 : Shape := ⟨2, ![256, 1024]⟩

abbrev nBuf : Table → Nat
  | .hbm => 26
  | .local .tc .vmem => 16
  | .local .scVector .vmem => 2
  | _ => 0

abbrev bufTy : (tb : Table) → Fin (nBuf tb) → BufTy
  | .hbm, ⟨0, _⟩ => ⟨S4096x50, .i32⟩
  | .hbm, ⟨1, _⟩ => ⟨S1000000x64, .f32⟩
  | .hbm, ⟨2, _⟩ => ⟨S3328x1024, .f32⟩
  | .hbm, ⟨3, _⟩ => ⟨S1024, .f32⟩
  | .hbm, ⟨4, _⟩ => ⟨S1024x1000, .f32⟩
  | .hbm, ⟨5, _⟩ => ⟨S1000, .f32⟩
  | .hbm, ⟨6, _⟩ => ⟨S16x256x50, .i32⟩
  | .hbm, ⟨7, _⟩ => ⟨S16x50x256, .i32⟩
  | .hbm, ⟨8, _⟩ => ⟨S1x204800, .i32⟩
  | .hbm, ⟨9, _⟩ => ⟨S_, .i32⟩
  | .hbm, ⟨10, _⟩ => ⟨S1x204800, .i32⟩
  | .hbm, ⟨11, _⟩ => ⟨S1x204800, .i32⟩
  | .hbm, ⟨12, _⟩ => ⟨S_, .i32⟩
  | .hbm, ⟨13, _⟩ => ⟨S4096x50, .i32⟩
  | .hbm, ⟨14, _⟩ => ⟨S4096x50, .i32⟩
  | .hbm, ⟨15, _⟩ => ⟨S_, .i32⟩
  | .hbm, ⟨16, _⟩ => ⟨S_, .i32⟩
  | .hbm, ⟨17, _⟩ => ⟨S4096x64, .i32⟩
  | .hbm, ⟨18, _⟩ => ⟨S500000x128, .f32⟩
  | .hbm, ⟨19, _⟩ => ⟨S204800x128, .f32⟩
  | .hbm, ⟨20, _⟩ => ⟨S1x64, .f32⟩
  | .hbm, ⟨21, _⟩ => ⟨S3328x1024, .bf16⟩
  | .hbm, ⟨22, _⟩ => ⟨S1024x1000, .bf16⟩
  | .hbm, ⟨23, _⟩ => ⟨S1x1024, .f32⟩
  | .hbm, ⟨24, _⟩ => ⟨S1x1000, .f32⟩
  | .hbm, ⟨25, _⟩ => ⟨S4096x1000, .f32⟩
  | .local .tc .vmem, ⟨0, _⟩ => ⟨S20000x64, .f32⟩
  | .local .tc .vmem, ⟨1, _⟩ => ⟨S20000x64, .f32⟩
  | .local .tc .vmem, ⟨2, _⟩ => ⟨S10000x128, .f32⟩
  | .local .tc .vmem, ⟨3, _⟩ => ⟨S10000x128, .f32⟩
  | .local .tc .vmem, ⟨4, _⟩ => ⟨S12800x128, .f32⟩
  | .local .tc .vmem, ⟨5, _⟩ => ⟨S12800x128, .f32⟩
  | .local .tc .vmem, ⟨6, _⟩ => ⟨S256x64, .i32⟩
  | .local .tc .vmem, ⟨7, _⟩ => ⟨S256x64, .i32⟩
  | .local .tc .vmem, ⟨8, _⟩ => ⟨S1x64, .f32⟩
  | .local .tc .vmem, ⟨9, _⟩ => ⟨S3328x1024, .bf16⟩
  | .local .tc .vmem, ⟨10, _⟩ => ⟨S1x1024, .f32⟩
  | .local .tc .vmem, ⟨11, _⟩ => ⟨S1024x1000, .bf16⟩
  | .local .tc .vmem, ⟨12, _⟩ => ⟨S1x1000, .f32⟩
  | .local .tc .vmem, ⟨13, _⟩ => ⟨S256x1000, .f32⟩
  | .local .tc .vmem, ⟨14, _⟩ => ⟨S256x1000, .f32⟩
  | .local .tc .vmem, ⟨15, _⟩ => ⟨S256x3456, .f32⟩
  | .local .scVector .vmem, ⟨0, _⟩ => ⟨S2x1x128, .i32⟩
  | .local .scVector .vmem, ⟨1, _⟩ => ⟨S2x128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v8_scv : Ref sig .scVector := ⟨.hbm, 18, rfl⟩
abbrev main_v4_scv : Ref sig .scVector := ⟨.hbm, 11, rfl⟩
abbrev main_v9_scv : Ref sig .scVector := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg7_0 : Ref sig .tc := ⟨.vmem, 13, rfl⟩
abbrev cc2_stg7_1 : Ref sig .tc := ⟨.vmem, 14, rfl⟩
abbrev cc2_scratch0 : Ref sig .tc := ⟨.vmem, 15, rfl⟩
abbrev cc1_scoped0 : Ref sig .scVector := ⟨.vmem, 0, rfl⟩
abbrev cc1_scoped2 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k1_off2 (i : grid1.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v7_r0 : BitVec 32 := Scalar.addi c0_i32_1_r0 v4
  let v22_r0 : BitVec 32 := Scalar.muli c128_i32_r0 v7_r0
  ![0, v22_r0.toNat]
def k1_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k1_t1_loop : Scf.Loop 32 :=
  let c0_i32_26_r0 : BitVec 32 := 0#32
  let c50_i32_27_r0 : BitVec 32 := 50#32
  let v32_r0 : BitVec 32 := Scalar.addi c0_i32_26_r0 c50_i32_27_r0
  let c1_i32_28_r0 : BitVec 32 := 1#32
  ⟨c0_i32_26_r0, v32_r0, c1_i32_28_r0⟩
def k1_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k1_cond1 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c49_i32_68_r0 : BitVec 32 := 49#32
  let v83_r0 : BitVec 1 := Scalar.cmpi .sge arg5_r0 c49_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k1_off5 (i : grid1.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v76_r0 : BitVec 32 := Scalar.addi v75_r0 v4
  let v145_r0 : BitVec 32 := Scalar.muli c128_i32_100_r0 v76_r0
  ![0, v145_r0.toNat]
def k1_off6 (arg6_r0 : BitVec 32) : Fin 1 → Nat :=
  let c2_i32_99_r0 : BitVec 32 := 2#32
  let v144_r0 : BitVec 32 := Scalar.remui arg6_r0 c2_i32_99_r0
  ![v144_r0.toNat]
def k1_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k1_cond2 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k1_off8 (i : grid1.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v144_r0 : BitVec 32 := Scalar.muli c128_i32_99_r0 v66_r0
  ![0, v144_r0.toNat]
def k1_off9 (arg7_r0 : BitVec 32) : Fin 1 → Nat :=
  let c2_i32_100_r0 : BitVec 32 := 2#32
  let v145_r0 : BitVec 32 := Scalar.remui arg7_r0 c2_i32_100_r0
  ![v145_r0.toNat]
def k1_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k1_chk2 (arg8_r0 : BitVec 32) : Prop :=
  (∀ a, (k1_off10 arg8_r0) a + S1x128x128.size a ≤ S2x128x128.size a)
theorem k1_off10_inb : ∀ (arg8_r0 : BitVec 32) (k1_hw2 : k1_chk2 arg8_r0), ∀ a, (k1_off10 arg8_r0) a + S1x128x128.size a ≤ S2x128x128.size a := fun arg8_r0 k1_hw2 => k1_hw2

def k1_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k1_chk3 (arg7_r0 : BitVec 32) : Prop :=
  (∀ a, (k1_off11 arg7_r0) a + S1x1x128.size a ≤ S2x1x128.size a)
theorem k1_off11_inb : ∀ (arg7_r0 : BitVec 32) (k1_hw3 : k1_chk3 arg7_r0), ∀ a, (k1_off11 arg7_r0) a + S1x1x128.size a ≤ S2x1x128.size a := fun arg7_r0 k1_hw3 => k1_hw3

def k1_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k1_cond5 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c50_i32_62_r0 : BitVec 32 := 50#32
  let v74_r0 : BitVec 1 := Scalar.cmpi .eq v73_r0 c50_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k1_t1
  let c49_i32_55_r0 : BitVec 32 := 49#32
  let v65_r0 : BitVec 1 := Scalar.cmpi .eq arg5_r0 c49_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k1_off13 (i : grid1.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k1_off14 (arg8_r0 : BitVec 32) : Fin 1 → Nat :=
  let c2_i32_99_r0 : BitVec 32 := 2#32
  let v144_r0 : BitVec 32 := Scalar.remui arg8_r0 c2_i32_99_r0
  ![v144_r0.toNat]
def k1_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k1_cond7 (i : grid1.Coords) (k1_t1 : Fin k1_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k1_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k1_off16 (i : grid1.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c49_i32_59_r0 : BitVec 32 := 49#32
  let v70_r0 : BitVec 32 := Scalar.select v69_r0 c49_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v71_r0 : BitVec 32 := Scalar.addi v70_r0 v4
  let v145_r0 : BitVec 32 := Scalar.muli c128_i32_100_r0 v71_r0
  let c0_i32_103_r0 : BitVec 32 := 0#32
  ![v145_r0.toNat, 0]
def k1_off17 (arg9_r0 : BitVec 32) : Fin 1 → Nat :=
  let c2_i32_99_r0 : BitVec 32 := 2#32
  let v144_r0 : BitVec 32 := Scalar.remui arg9_r0 c2_i32_99_r0
  ![v144_r0.toNat]

def k1_chk1 (i : grid1.Coords) (k1_t1 : Fin k1_t1_loop.trips) (arg6_r0 : BitVec 32) (arg7_r0 : BitVec 32) (arg8_r0 : BitVec 32) (arg9_r0 : BitVec 32) (arg10_r0 : BitVec 32) : Prop :=
  (∀ (k1_h1 : k1_cond1 i k1_t1 arg10_r0 = 1#1), ∀ a, (k1_off4 arg6_r0) a + S1x1x128.size a ≤ S2x1x128.size a) ∧
  (∀ (k1_h1 : k1_cond1 i k1_t1 arg10_r0 = 1#1), ∀ a, (k1_off5 i arg10_r0) a + S1x128.size a ≤ S1x204800.size a) ∧
  (∀ (k1_h1 : k1_cond1 i k1_t1 arg10_r0 = 1#1), ∀ a, (k1_off6 arg6_r0) a + S1.size a ≤ S2.size a) ∧
  (∀ (k1_h2 : k1_cond2 i k1_t1 arg10_r0 = 1#1), ∀ a, (k1_off7 arg7_r0) a + S1x1x128.size a ≤ S2x1x128.size a) ∧
  (∀ (k1_h2 : k1_cond2 i k1_t1 arg10_r0 = 1#1), ∀ a, (k1_off8 i arg10_r0) a + S1x128.size a ≤ S1x204800.size a) ∧
  (∀ (k1_h2 : k1_cond2 i k1_t1 arg10_r0 = 1#1), ∀ a, (k1_off9 arg7_r0) a + S1.size a ≤ S2.size a) ∧
  (∀ (k1_h5 : k1_cond5 i k1_t1 arg10_r0 = 1#1), ∀ a, (k1_off12 arg8_r0) a + S1x128x128.size a ≤ S2x128x128.size a) ∧
  (∀ (k1_h5 : k1_cond5 i k1_t1 arg10_r0 = 1#1), ∀ a, (k1_off13 i arg10_r0) a + S128x128.size a ≤ S204800x128.size a) ∧
  (∀ (k1_h5 : k1_cond5 i k1_t1 arg10_r0 = 1#1), ∀ a, (k1_off14 arg8_r0) a + S1.size a ≤ S2.size a) ∧
  (∀ (k1_h7 : k1_cond7 i k1_t1 arg10_r0 = 1#1), ∀ a, (k1_off15 arg9_r0) a + S1x128x128.size a ≤ S2x128x128.size a) ∧
  (∀ (k1_h7 : k1_cond7 i k1_t1 arg10_r0 = 1#1), ∀ a, (k1_off16 i arg10_r0) a + S128x128.size a ≤ S204800x128.size a) ∧
  (∀ (k1_h7 : k1_cond7 i k1_t1 arg10_r0 = 1#1), ∀ a, (k1_off17 arg9_r0) a + S1.size a ≤ S2.size a)
theorem k1_off4_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off4 arg6_r0) a + S1x1x128.size a ≤ S2x1x128.size a := fun i k1_t1 arg6_r0 arg7_r0 arg8_r0 arg9_r0 arg10_r0 k1_hw1 k1_h1 => k1_hw1.1 k1_h1
theorem k1_off5_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off5 i arg10_r0) a + S1x128.size a ≤ S1x204800.size a := fun i k1_t1 arg6_r0 arg7_r0 arg8_r0 arg9_r0 arg10_r0 k1_hw1 k1_h1 => k1_hw1.2.1 k1_h1
theorem k1_off6_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i k1_t1 arg10_r0 = 1#1), ∀ a, (k1_off6 arg6_r0) a + S1.size a ≤ S2.size a := fun i k1_t1 arg6_r0 arg7_r0 arg8_r0 arg9_r0 arg10_r0 k1_hw1 k1_h1 => k1_hw1.2.2.1 k1_h1
theorem k1_off7_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off7 arg7_r0) a + S1x1x128.size a ≤ S2x1x128.size a := fun i k1_t1 arg6_r0 arg7_r0 arg8_r0 arg9_r0 arg10_r0 k1_hw1 k1_h2 => k1_hw1.2.2.2.1 k1_h2
theorem k1_off8_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off8 i arg10_r0) a + S1x128.size a ≤ S1x204800.size a := fun i k1_t1 arg6_r0 arg7_r0 arg8_r0 arg9_r0 arg10_r0 k1_hw1 k1_h2 => k1_hw1.2.2.2.2.1 k1_h2
theorem k1_off9_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h2 : k1_cond2 i k1_t1 arg10_r0 = 1#1), ∀ a, (k1_off9 arg7_r0) a + S1.size a ≤ S2.size a := fun i k1_t1 arg6_r0 arg7_r0 arg8_r0 arg9_r0 arg10_r0 k1_hw1 k1_h2 => k1_hw1.2.2.2.2.2.1 k1_h2
theorem k1_off12_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off12 arg8_r0) a + S1x128x128.size a ≤ S2x128x128.size a := fun i k1_t1 arg6_r0 arg7_r0 arg8_r0 arg9_r0 arg10_r0 k1_hw1 k1_h5 => k1_hw1.2.2.2.2.2.2.1 k1_h5
theorem k1_off13_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off13 i arg10_r0) a + S128x128.size a ≤ S204800x128.size a := fun i k1_t1 arg6_r0 arg7_r0 arg8_r0 arg9_r0 arg10_r0 k1_hw1 k1_h5 => k1_hw1.2.2.2.2.2.2.2.1 k1_h5
theorem k1_off14_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h5 : k1_cond5 i k1_t1 arg10_r0 = 1#1), ∀ a, (k1_off14 arg8_r0) a + S1.size a ≤ S2.size a := fun i k1_t1 arg6_r0 arg7_r0 arg8_r0 arg9_r0 arg10_r0 k1_hw1 k1_h5 => k1_hw1.2.2.2.2.2.2.2.2.1 k1_h5
theorem k1_off15_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off15 arg9_r0) a + S1x128x128.size a ≤ S2x128x128.size a := fun i k1_t1 arg6_r0 arg7_r0 arg8_r0 arg9_r0 arg10_r0 k1_hw1 k1_h7 => k1_hw1.2.2.2.2.2.2.2.2.2.1 k1_h7
theorem k1_off16_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off16 i arg10_r0) a + S128x128.size a ≤ S204800x128.size a := fun i k1_t1 arg6_r0 arg7_r0 arg8_r0 arg9_r0 arg10_r0 k1_hw1 k1_h7 => k1_hw1.2.2.2.2.2.2.2.2.2.2.1 k1_h7
theorem k1_off17_inb : ∀ (i : grid1.Coords) (k1_t1 : Fin k1_t1_loop.trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h7 : k1_cond7 i k1_t1 arg10_r0 = 1#1), ∀ a, (k1_off17 arg9_r0) a + S1.size a ≤ S2.size a := fun i k1_t1 arg6_r0 arg7_r0 arg8_r0 arg9_r0 arg10_r0 k1_hw1 k1_h7 => k1_hw1.2.2.2.2.2.2.2.2.2.2.2 k1_h7

def k1_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k1_off19 (i : grid1.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c49_i32_33_r0 : BitVec 32 := 49#32
  let v37_r0 : BitVec 32 := Scalar.select v36_r0 c49_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c50_i32 : BitVec 32 := 50#32
  let v4 : BitVec 32 := Scalar.muli v3 c50_i32
  let v38_r0 : BitVec 32 := Scalar.addi v37_r0 v4
  let v55_r0 : BitVec 32 := Scalar.muli c128_i32_47_r0 v38_r0
  let c0_i32_50_r0 : BitVec 32 := 0#32
  ![v55_r0.toNat, 0]

def k1_chk5 (i : grid1.Coords) (v33_4_r0 : BitVec 32) : Prop :=
  (∀ a, (k1_off19 i v33_4_r0) a + S128x128.size a ≤ S204800x128.size a)
theorem k1_off19_inb : ∀ (i : grid1.Coords) (v33_4_r0 : BitVec 32) (k1_hw5 : k1_chk5 i v33_4_r0), ∀ a, (k1_off19 i v33_4_r0) a + S128x128.size a ≤ S204800x128.size a := fun i v33_4_r0 k1_hw5 => k1_hw5

def k1_off20 (v33_3_r0 : BitVec 32) : Fin 1 → Nat :=
  let c2_i32_46_r0 : BitVec 32 := 2#32
  let v54_r0 : BitVec 32 := Scalar.remui v33_3_r0 c2_i32_46_r0
  ![v54_r0.toNat]
def k1_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k1_chk4 (v33_3_r0 : BitVec 32) : Prop :=
  (∀ a, (k1_off18 v33_3_r0) a + S1x128x128.size a ≤ S2x128x128.size a) ∧
  (∀ a, (k1_off20 v33_3_r0) a + S1.size a ≤ S2.size a) ∧
  (∀ a, (k1_off21 v33_3_r0) a + S1x128x128.size a ≤ S2x128x128.size a)
theorem k1_off18_inb : ∀ (v33_3_r0 : BitVec 32) (k1_hw4 : k1_chk4 v33_3_r0), ∀ a, (k1_off18 v33_3_r0) a + S1x128x128.size a ≤ S2x128x128.size a := fun v33_3_r0 k1_hw4 => k1_hw4.1
theorem k1_off20_inb : ∀ (v33_3_r0 : BitVec 32) (k1_hw4 : k1_chk4 v33_3_r0), ∀ a, (k1_off20 v33_3_r0) a + S1.size a ≤ S2.size a := fun v33_3_r0 k1_hw4 => k1_hw4.2.1
theorem k1_off21_inb : ∀ (v33_3_r0 : BitVec 32) (k1_hw4 : k1_chk4 v33_3_r0), ∀ a, (k1_off21 v33_3_r0) a + S1x128x128.size a ≤ S2x128x128.size a := fun v33_3_r0 k1_hw4 => k1_hw4.2.2

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12800x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x64 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3328x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x1000 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1000 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x1000 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x50 : Shape := ⟨2, ![4096, 50]⟩
abbrev S1000000x64 : Shape := ⟨2, ![1000000, 64]⟩
abbrev S3328x1024 : Shape := ⟨2, ![3328, 1024]⟩
abbrev S1024 : Shape := ⟨1, ![1024]⟩
abbrev S1024x1000 : Shape := ⟨2, ![1024, 1000]⟩
abbrev S1000 : Shape := ⟨1, ![1000]⟩
abbrev S_ : Shape := ⟨0, ![]⟩
abbrev S4096x54 : Shape := ⟨2, ![4096, 54]⟩
abbrev S4096x54x1 : Shape := ⟨3, ![4096, 54, 1]⟩
abbrev S1 : Shape := ⟨1, ![1]⟩
abbrev S1x1x1 : Shape := ⟨3, ![1, 1, 1]⟩
abbrev S4096x54x64 : Shape := ⟨3, ![4096, 54, 64]⟩
abbrev S4096x52x64 : Shape := ⟨3, ![4096, 52, 64]⟩
abbrev S1x4096x52x64 : Shape := ⟨4, ![1, 4096, 52, 64]⟩
abbrev S3x4096x52x64 : Shape := ⟨4, ![3, 4096, 52, 64]⟩
abbrev S4096x3328 : Shape := ⟨2, ![4096, 3328]⟩
abbrev S4096x1024 : Shape := ⟨2, ![4096, 1024]⟩
abbrev S1x1024 : Shape := ⟨2, ![1, 1024]⟩
abbrev S4096x1000 : Shape := ⟨2, ![4096, 1000]⟩
abbrev S1x1000 : Shape := ⟨2, ![1, 1000]⟩

abbrev nBuf : Space → Nat
  | .hbm => 53
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S1000000x64, .f32⟩
  | .hbm, ⟨2, _⟩ => ⟨S3328x1024, .f32⟩
  | .hbm, ⟨3, _⟩ => ⟨S1024, .f32⟩
  | .hbm, ⟨4, _⟩ => ⟨S1024x1000, .f32⟩
  | .hbm, ⟨5, _⟩ => ⟨S1000, .f32⟩
  | .hbm, ⟨6, _⟩ => ⟨S_, .i32⟩
  | .hbm, ⟨7, _⟩ => ⟨S_, .i32⟩
  | .hbm, ⟨8, _⟩ => ⟨S4096x54, .i32⟩
  | .hbm, ⟨9, _⟩ => ⟨S_, .i32⟩
  | .hbm, ⟨10, _⟩ => ⟨S4096x54, .i32⟩
  | .hbm, ⟨11, _⟩ => ⟨S4096x54, .i1⟩
  | .hbm, ⟨12, _⟩ => ⟨S_, .i32⟩
  | .hbm, ⟨13, _⟩ => ⟨S4096x54, .i32⟩
  | .hbm, ⟨14, _⟩ => ⟨S4096x54, .i32⟩
  | .hbm, ⟨15, _⟩ => ⟨S4096x54, .i32⟩
  | .hbm, ⟨16, _⟩ => ⟨S4096x54x1, .i32⟩
  | .hbm, ⟨17, _⟩ => ⟨S1, .i32⟩
  | .hbm, ⟨18, _⟩ => ⟨S_, .i32⟩
  | .hbm, ⟨19, _⟩ => ⟨S4096x54x1, .i32⟩
  | .hbm, ⟨20, _⟩ => ⟨S4096x54x1, .i1⟩
  | .hbm, ⟨21, _⟩ => ⟨S1x1x1, .i32⟩
  | .hbm, ⟨22, _⟩ => ⟨S4096x54x1, .i32⟩
  | .hbm, ⟨23, _⟩ => ⟨S4096x54x1, .i1⟩
  | .hbm, ⟨24, _⟩ => ⟨S4096x54x1, .i1⟩
  | .hbm, ⟨25, _⟩ => ⟨S_, .i1⟩
  | .hbm, ⟨26, _⟩ => ⟨S4096x54, .i1⟩
  | .hbm, ⟨27, _⟩ => ⟨S4096x54x64, .f32⟩
  | .hbm, ⟨28, _⟩ => ⟨S4096x54x64, .i1⟩
  | .hbm, ⟨29, _⟩ => ⟨S_, .f32⟩
  | .hbm, ⟨30, _⟩ => ⟨S4096x54x64, .f32⟩
  | .hbm, ⟨31, _⟩ => ⟨S4096x54x64, .f32⟩
  | .hbm, ⟨32, _⟩ => ⟨S4096x52x64, .f32⟩
  | .hbm, ⟨33, _⟩ => ⟨S4096x52x64, .f32⟩
  | .hbm, ⟨34, _⟩ => ⟨S4096x52x64, .f32⟩
  | .hbm, ⟨35, _⟩ => ⟨S1x4096x52x64, .f32⟩
  | .hbm, ⟨36, _⟩ => ⟨S1x4096x52x64, .f32⟩
  | .hbm, ⟨37, _⟩ => ⟨S1x4096x52x64, .f32⟩
  | .hbm, ⟨38, _⟩ => ⟨S3x4096x52x64, .f32⟩
  | .hbm, ⟨39, _⟩ => ⟨S_, .f32⟩
  | .hbm, ⟨40, _⟩ => ⟨S4096x52x64, .f32⟩
  | .hbm, ⟨41, _⟩ => ⟨S4096x3328, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1000, .f32⟩
  | .hbm, ⟨50, _⟩ => ⟨S1x1000, .f32⟩
  | .hbm, ⟨51, _⟩ => ⟨S4096x1000, .f32⟩
  | .hbm, ⟨52, _⟩ => ⟨S4096x1000, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_cst : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_call2_cst : Ref sig .tc := ⟨.hbm, 46, rfl⟩
abbrev main_call2_v0 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩

abbrev nD : Nat := 1
abbrev τ : Topo := Topo.v7x

variable {F : FTy → Type} [FloatOps F]
-- ==== Proof.Base.lean ====
/-
  The program as the launch theorem sees it, the resource algebra (the handshakes' rounds library, the pipelines' rounds
  library, the transfers' counters), and the blocks the gather kernel moves: 1600 blocks of 128 rows, 50 to each of the 32
  tiles, staged through two index slots and two row slots.
-/
module

public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Ring
public import Idealize.ShloMosaic.Lib.Writes
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
/-- The call runs on sixteen tiles of each core. -/
theorem nSub_zero : (K (F := F)).nSub 0 = 16 := rfl
/-- The call runs on two cores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch theorem: the handshakes' semaphores are distinct and of their own kinds. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-- The pipelines' ghost state lies in the user part of the resources. -/
instance EP_landsIn : (EP (F := F)).LandsIn (upEmb : UEmb _ 𝕄) := by infer_instance

example : UEmb Counters 𝕄 := countersEmb

end Cert.Proof.Gather
-- ==== Proof.Tc.lean ====
/-
  A TensorCore body's loads and stores over staging memrefs held at what they read: a load reads the contents through its
  rectangle; a store into a memref whose contents are known to agree with one function on a region extends that region by
  the rectangle stored.
-/
module

public import proofs.«01_k».proof.Proof.Base

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (c : Dev nD) {s : Shape} {e : EltTy}

/-- A memref's buffer on core `c`, agreeing with `G` wherever `p` holds. -/
def Acc (m : Memref sig .tc .vmem s e) (p : s.Idx → Prop) (G : s.Idx → Elt F e) : sProp 𝕄 :=
  iprop(∃ f : Buf (Elt F) (m.view.loc (c : Thread nD τ)), ⌜∀ y, p y → m.view.read (Elt F) f y = G y⌝ ∗ (m.view.loc (c : Thread nD τ) ↦[m.view.set]{fullShare} f))

/-- A memref held at what it reads, agrees nowhere in particular with `G`; -/
theorem acc_of_owns (m : Memref sig .tc .vmem s e) (X G : s.Idx → Elt F e) (p : s.Idx → Prop) (hp : ∀ y, ¬ p y) :
    owns (c : Thread nD τ) m fullShare X ⊢ Acc c m p G := by
  unfold owns Acc
  iintro ⟨%f, -, H⟩
  iexists f
  isplitr; · ipureintro; exact fun y h => absurd h (hp y)
  iexact H

/-- one that agrees everywhere is held at `G`. -/
theorem owns_of_acc (m : Memref sig .tc .vmem s e) (G : s.Idx → Elt F e) (p : s.Idx → Prop) (hp : ∀ y, p y) :
    Acc c m p G ⊢ owns (c : Thread nD τ) m fullShare G := by
  unfold owns Acc
  iintro ⟨%f, %hf, H⟩
  iexists f
  isplitr; · ipureintro; exact funext fun y => hf y (hp y)
  iexact H

variable {α : Type} {Q : α → sProp (MT nD τ sig (HIx 1) (Elt F) ℕ UU ℕ)}

/-- A load reads the contents through its rectangle. -/
theorem wp_ld {m : Memref sig .tc .vmem s e} {r : LoadRect s} {hl : m.view.LoadsAt r} {k : (r.shape.Idx → Elt F e) → Prog (TpuEff nD τ sig (Elt F) Λ₀ .tc) α}
    {q : PosShare TreeShare} (X : s.Idx → Elt F e) :
    owns (c : Thread nD τ) m q X
      ⊢ iprop((owns (c : Thread nD τ) m q X -∗ wp frame (wpE (defs₀ (F := F)) 𝒱₀ (c : Thread nD τ) none) Set.univ (k fun x => X (r.idx x)) Q)
        -∗ wp frame (wpE (defs₀ (F := F)) 𝒱₀ (c : Thread nD τ) none) Set.univ (.op (.load m r hl) k) Q) := by
  unfold owns
  iintro ⟨%f, %hf, H⟩ Hk
  subst hf
  iapply (wp_load 𝒱₀ (c : Thread nD τ) none Set.univ (m := m) (r := r) (hl := hl) (k := k) (f := f) (q := q) (Q := Q) (m.view.setOn_subset_set _)) $$ H
  iintro H
  iapply Hk
  iexists f
  isplitr; · ipureintro; rfl
  iexact H

/-- A rectangle of the whole shape at offset zero places an index at itself. -/
theorem idx_zero {off : Fin s.rank → ℕ} {inb : ∀ a, off a + s.size a ≤ s.size a} (h : ∀ a, off a = 0) (x : s.Idx) :
    (Rect.unit (s := s) off s.size inb).toLoadRect.idx x = x := by
  funext a
  apply Fin.ext
  show off a + 1 * (x a).val = (x a).val
  rw [h a]; omega

/-- A load of the whole memref reads the contents. -/
theorem wp_ldWhole {m : Memref sig .tc .vmem s e} {off : Fin s.rank → ℕ} {inb : ∀ a, off a + s.size a ≤ s.size a}
    {hl : m.view.LoadsAt (Rect.unit (s := s) off s.size inb).toLoadRect} {k : (s.Idx → Elt F e) → Prog (TpuEff nD τ sig (Elt F) Λ₀ .tc) α}
    {q : PosShare TreeShare} (X : s.Idx → Elt F e) (h : ∀ a, off a = 0) :
    owns (c : Thread nD τ) m q X
      ⊢ iprop((owns (c : Thread nD τ) m q X -∗ wp frame (wpE (defs₀ (F := F)) 𝒱₀ (c : Thread nD τ) none) Set.univ (k X) Q)
        -∗ wp frame (wpE (defs₀ (F := F)) 𝒱₀ (c : Thread nD τ) none) Set.univ (.op (.load m (Rect.unit (s := s) off s.size inb).toLoadRect hl) k) Q) := by
  have := wp_ld (F := F) (Q := Q) c (m := m) (r := (Rect.unit (s := s) off s.size inb).toLoadRect) (hl := hl) (k := k) (q := q) X
  rwa [show (fun x => X ((Rect.unit (s := s) off s.size inb).toLoadRect.idx x)) = X from funext fun x => congrArg X (idx_zero h x)] at this

/-- A program that has returned. -/
theorem wp_done {p : Prog (TpuEff nD τ sig (Elt F) Λ₀ .tc) α} (x : α) (h : p = .ret x) :
    Q x ⊢ wp frame (wpE (defs₀ (F := F)) 𝒱₀ (c : Thread nD τ) none) Set.univ p Q := by
  subst h
  iintro H
  sl_step
  iexact H

/-- A load from a memref being filled reads something; the memref stays as it was. -/
theorem wp_ldAny {m : Memref sig .tc .vmem s e} {r : LoadRect s} {hl : m.view.LoadsAt r} {k : (r.shape.Idx → Elt F e) → Prog (TpuEff nD τ sig (Elt F) Λ₀ .tc) α}
    (p : s.Idx → Prop) (G : s.Idx → Elt F e) :
    Acc c m p G
      ⊢ iprop((∀ v, Acc c m p G -∗ wp frame (wpE (defs₀ (F := F)) 𝒱₀ (c : Thread nD τ) none) Set.univ (k v) Q)
        -∗ wp frame (wpE (defs₀ (F := F)) 𝒱₀ (c : Thread nD τ) none) Set.univ (.op (.load m r hl) k) Q) := by
  unfold Acc
  iintro ⟨%f, %hf, H⟩ Hk
  iapply (wp_load 𝒱₀ (c : Thread nD τ) none Set.univ (m := m) (r := r) (hl := hl) (k := k) (f := f) (Q := Q) (m.view.setOn_subset_set _)) $$ H
  iintro H
  iapply Hk
  iexists f
  isplitr; · ipureintro; exact hf
  iexact H

/-- A store of `G`'s own values through a rectangle extends the region of agreement by it. -/
theorem wp_stAcc {m : Memref sig .tc .vmem s e} {r : Rect s} {w : r.shape.Idx → Elt F e}
    {hx : (m.access r).Stores Finset.univ} {hm : Finset.univ = Finset.univ ∨ ∀ a, r.stride a = 1} {k : PUnit → Prog (TpuEff nD τ sig (Elt F) Λ₀ .tc) α}
    (p p' : s.Idx → Prop) (G : s.Idx → Elt F e) (hw : ∀ x, w x = G (r.emb x)) (hp : ∀ y, p' y → p y ∨ y ∈ r.set) :
    Acc c m p G
      ⊢ iprop((Acc c m p' G -∗ wp frame (wpE (defs₀ (F := F)) 𝒱₀ (c : Thread nD τ) none) Set.univ (k ⟨⟩) Q)
        -∗ wp frame (wpE (defs₀ (F := F)) 𝒱₀ (c : Thread nD τ) none) Set.univ (.op (.store m r w Finset.univ hx hm) k) Q) := by
  unfold Acc
  iintro ⟨%f, %hf, H⟩ Hk
  iapply (wp_store_writes₀ 𝒱₀ (c : Thread nD τ) none Set.univ (m := m) (r := r) (w := w) (hx := hx) (hm := hm) (k := k) (f := f) (Q := Q)
    (show (m.access r).set ⊆ m.view.set from View.set_slice_subset _ _)) $$ H
  iintro H
  iapply Hk
  iexists _
  isplitr; swap; · iexact H
  ipureintro
  intro y hy
  by_cases hr : y ∈ r.set
  · obtain ⟨x, rfl⟩ := r.exists_idx_of_mem hr
    exact (View.read_writes_cons_emb m.view f r w [] x).trans (hw x)
  · rw [View.read_writes_apply_of_forall_not_mem _ _ _ _ (fun p hp => by rw [List.mem_singleton.mp hp]; exact hr)]
    exact hf y ((hp y hy).resolve_right hr)

end Cert.Proof.Gather
-- ==== Proof.Words.lean ====
/-
  The words of one trip of the gather kernel's loop, in closed form: at trip `k` the loop carries
  `(k + 1, k, k, k - 1, k)`, the conditions are `k < 49`, true, true and `0 < k`, the slots are the counters' parities
  and the blocks are `k + 1`, `k`, `k` and `k - 1` of the tile's fifty.
-/
module

public import proofs.«01_k».proof.Proof.Base

@[expose] public section

noncomputable section

namespace Cert.Proof.Gather

open Cert.KernelIdeal Cert.KernelIdeal.Gen
open Idealize.ShloMosaic

/-- Word `n`. -/
abbrev wd (n : ℕ) : BitVec 32 := BitVec.ofNat 32 n

/-- The number of tile `i`'s `k`-th block among all 1600. -/
abbrev blkN (i : grid1.Coords) (k : ℕ) : ℕ := 50 * ((i 1).val + 16 * (i 0).val) + k

/-- What the loop carries before trip `k`. -/
abbrev accAt (k : ℕ) : BitVec 32 × BitVec 32 × BitVec 32 × BitVec 32 × BitVec 32 :=
  (wd (min (k + 1) 50), wd k, wd k, wd (k - 1), wd (k % 50))

/-- The loop makes 50 trips. -/
theorem trips_eq : k1_t1_loop.trips = 50 := by decide +kernel

set_option maxRecDepth 100000 in
/-- The next fetch is started at every trip but the last. -/
theorem cond1_iff : ∀ (i : grid1.Coords) (k : Fin 50), k1_cond1 i k (wd k.val) = 1#1 ↔ k.val < 49 := by decide +kernel
/-- Every trip waits for its fetch. -/
theorem cond2_eq : ∀ (i : grid1.Coords) (k : Fin 50), k1_cond2 i k (wd k.val) = 1#1 := by decide +kernel
/-- Every trip starts its write-out. -/
theorem cond5_eq : ∀ (i : grid1.Coords) (k : Fin 50), k1_cond5 i k (wd k.val) = 1#1 := by decide +kernel
/-- Every trip but the first waits for the write-out before it. -/
theorem cond7_iff : ∀ (i : grid1.Coords) (k : Fin 50), k1_cond7 i k (wd k.val) = 1#1 ↔ 0 < k.val := by decide +kernel

/-- The slot of the step with this word is its parity. -/
theorem off4_eq : ∀ k : Fin 51, k1_off4 (wd k.val) = ![k.val % 2, 0, 0] := by decide +kernel
/-- The semaphore of the step with this word is its slot's. -/
theorem off6_eq : ∀ k : Fin 51, k1_off6 (wd k.val) = ![k.val % 2] := by decide +kernel
/-- The slot of the step with this word is its parity. -/
theorem off7_eq : ∀ k : Fin 51, k1_off7 (wd k.val) = ![k.val % 2, 0, 0] := by decide +kernel
/-- The semaphore of the step with this word is its slot's. -/
theorem off9_eq : ∀ k : Fin 51, k1_off9 (wd k.val) = ![k.val % 2] := by decide +kernel
/-- The slot of the step with this word is its parity. -/
theorem off10_eq : ∀ k : Fin 51, k1_off10 (wd k.val) = ![k.val % 2, 0, 0] := by decide +kernel
/-- The slot of the step with this word is its parity. -/
theorem off11_eq : ∀ k : Fin 51, k1_off11 (wd k.val) = ![k.val % 2, 0, 0] := by decide +kernel
/-- The slot of the step with this word is its parity. -/
theorem off12_eq : ∀ k : Fin 51, k1_off12 (wd k.val) = ![k.val % 2, 0, 0] := by decide +kernel
/-- The semaphore of the step with this word is its slot's. -/
theorem off14_eq : ∀ k : Fin 51, k1_off14 (wd k.val) = ![k.val % 2] := by decide +kernel
/-- The slot of the step with this word is its parity. -/
theorem off15_eq : ∀ k : Fin 51, k1_off15 (wd k.val) = ![k.val % 2, 0, 0] := by decide +kernel
/-- The semaphore of the step with this word is its slot's. -/
theorem off17_eq : ∀ k : Fin 51, k1_off17 (wd k.val) = ![k.val % 2] := by decide +kernel
/-- The slot of the step with this word is its parity. -/
theorem off18_eq : ∀ k : Fin 51, k1_off18 (wd k.val) = ![k.val % 2, 0, 0] := by decide +kernel
/-- The semaphore of the step with this word is its slot's. -/
theorem off20_eq : ∀ k : Fin 51, k1_off20 (wd k.val) = ![k.val % 2] := by decide +kernel
/-- The slot of the step with this word is its parity. -/
theorem off21_eq : ∀ k : Fin 51, k1_off21 (wd k.val) = ![k.val % 2, 0, 0] := by decide +kernel

/-- The next fetch is of the next block. -/
theorem off5_eq : ∀ (i : grid1.Coords) (k : Fin 49), k1_off5 i (wd k.val) = ![0, 128 * blkN i (k.val + 1)] := by decide +kernel
/-- The fetch waited for is of this block. -/
theorem off8_eq : ∀ (i : grid1.Coords) (k : Fin 50), k1_off8 i (wd k.val) = ![0, 128 * blkN i k.val] := by decide +kernel
/-- The write-out is to this block. -/
theorem off13_eq : ∀ (i : grid1.Coords) (k : Fin 50), k1_off13 i (wd k.val) = ![128 * blkN i k.val, 0] := by decide +kernel
/-- The write-out waited for is to the block before. -/
theorem off16_eq : ∀ (i : grid1.Coords) (k : Fin 49), k1_off16 i (wd (k.val + 1)) = ![128 * blkN i k.val, 0] := by decide +kernel
/-- The last write-out waited for is to the tile's last block. -/
theorem off19_eq : ∀ i : grid1.Coords, k1_off19 i 0#32 = ![128 * blkN i 49, 0] := by decide +kernel
/-- The first fetch is of the tile's first block. -/
theorem off2_eq (i : grid1.Coords) : k1_off2 i = ![0, 128 * blkN i 0] := by
  rw [k1_off2_eq]; congr 2; unfold blkN; omega

/-- The checks hold of the words the loop carries. -/
theorem chk3_ok : ∀ k : Fin 50, k1_chk3 (wd k.val) := by decide +kernel
/-- The check on the slots holds at every trip. -/
theorem chk2_ok : ∀ k : Fin 50, k1_chk2 (wd k.val) := by decide +kernel
/-- The trip's checks can be decided. -/
instance decChk1 (i : grid1.Coords) (k : Fin k1_t1_loop.trips) (a b c d e : BitVec 32) : Decidable (k1_chk1 i k a b c d e) := k1_chk1.dec i k a b c d e
/-- The trip's checks hold of the words that the loop carries. -/
theorem chk1_ok : ∀ (i : grid1.Coords) (k : Fin k1_t1_loop.trips), k1_chk1 i k (wd (k.val + 1)) (wd k.val) (wd k.val) (wd (k.val - 1)) (wd k.val) := by
  decide +kernel
/-- The check after the loop holds of the last word. -/
theorem chk4_ok : k1_chk4 (wd 49) := by decide +kernel
/-- The check before the loop holds of the first word. -/
theorem chk5_ok : ∀ i : grid1.Coords, k1_chk5 i (wd 0) := by decide +kernel

/-- The tile's first block number as the kernel computes it. -/
abbrev v4W (i : grid1.Coords) : BitVec 32 :=
  Scalar.muli (Scalar.addi (Scalar.addi 0#32 (Scalar.muli (BitVec.ofNat 32 (i 1).val) 1#32)) (Scalar.muli (BitVec.ofNat 32 (i 0).val) 16#32)) 50#32

/-- The block numbers compared: the trip's, the one before and the one after, cyclically. -/
abbrev v66W (i : grid1.Coords) (a10 : BitVec 32) : BitVec 32 := Scalar.addi a10 (v4W i)
abbrev v71W (i : grid1.Coords) (a10 : BitVec 32) : BitVec 32 :=
  Scalar.addi (Scalar.select (Scalar.cmpi .eq (Scalar.select 1#1 (Scalar.subi a10 1#32) a10) 4294967295#32) 49#32 (Scalar.select 1#1 (Scalar.subi a10 1#32) a10)) (v4W i)
abbrev v75W (a10 : BitVec 32) : BitVec 32 :=
  Scalar.select (Scalar.cmpi .eq (Scalar.select 1#1 (Scalar.addi a10 1#32) a10) 50#32) 0#32 (Scalar.select 1#1 (Scalar.addi a10 1#32) a10)
abbrev v76W (i : grid1.Coords) (a10 : BitVec 32) : BitVec 32 := Scalar.addi (v75W a10) (v4W i)
abbrev v5W (k : ℕ) : BitVec 32 := Scf.iv 0#32 1#32 k

/-- The words a trip hands the next. -/
abbrev nextW (i : grid1.Coords) (k : ℕ) (a6 a7 a8 a9 a10 : BitVec 32) : BitVec 32 × BitVec 32 × BitVec 32 × BitVec 32 × BitVec 32 :=
  (Scalar.select (Scalar.andi (Scalar.andi (Scalar.cmpi .ne (v66W i a10) (v76W i a10)) (Scalar.xori (Scalar.cmpi .sge (v5W k) 49#32) 1#1)) 1#1) (Scalar.addi a6 1#32) a6,
   Scalar.select (Scalar.ori (Scalar.cmpi .ne (v66W i a10) (v76W i a10)) (Scalar.cmpi .eq (v5W k) 49#32)) (Scalar.addi a7 1#32) a7,
   Scalar.select (Scalar.andi (Scalar.ori (Scalar.cmpi .ne (v66W i a10) (v76W i a10)) (Scalar.cmpi .eq (v5W k) 49#32)) 1#1) (Scalar.addi a8 1#32) a8,
   Scalar.select (Scalar.andi (Scalar.andi (Scalar.cmpi .ne (v66W i a10) (v71W i a10)) (Scalar.xori (Scalar.cmpi .eq (v5W k) 0#32) 1#1)) 1#1) (Scalar.addi a9 1#32) a9,
   v75W a10)

/-- The words that a trip hands on are those of the next trip. -/
theorem next_eq : ∀ (i : grid1.Coords) (k : Fin 50),
    nextW i k.val (wd (k.val + 1)) (wd k.val) (wd k.val) (wd (k.val - 1)) (wd k.val) = accAt (k.val + 1) := by decide +kernel

/-- The words before trip `k`. -/
theorem accAt_of_lt {k : ℕ} (hk : k < 50) : accAt k = (wd (k + 1), wd k, wd k, wd (k - 1), wd k) := by
  unfold accAt; rw [Nat.min_eq_left (by omega), Nat.mod_eq_of_lt hk]

end Cert.Proof.Gather
-- ==== Proof.Blocks.lean ====
/-
  The blocks and slots as the gather kernel addresses them: block `b` of the index list and of the output, index slot
  `s` and row slot `s` with their semaphores; slices at equal offsets are the same slices; what a slot holds after each
  copy, read through its own slice.
-/
module

public import proofs.«01_k».proof.Proof.Words

@[expose] public section

noncomputable section

namespace Cert.Proof.Gather

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

abbrev tV : Memref sig .scVector .hbm S500000x128 .f32 := Memref.whole main_v8_scv
abbrev iV : Memref sig .scVector .hbm S1x204800 .i32 := Memref.whole main_v4_scv
abbrev oV : Memref sig .scVector .hbm S204800x128 .f32 := Memref.whole main_v9_scv
abbrev sV : Memref sig .scVector .vmem S2x1x128 .i32 := Memref.whole cc1_scoped0
abbrev rV : Memref sig .scVector .vmem S2x128x128 .f32 := Memref.whole cc1_scoped2

/-- An index slot lies in its buffer. -/
theorem inb_in (s : Fin 2) : ∀ a, (![s.val, 0, 0] : Fin 3 → ℕ) a + S1x1x128.size a ≤ S2x1x128.size a := by revert s; decide
/-- A row slot lies in its buffer. -/
theorem inb_out (s : Fin 2) : ∀ a, (![s.val, 0, 0] : Fin 3 → ℕ) a + S1x128x128.size a ≤ S2x128x128.size a := by revert s; decide
/-- A slot's semaphore lies in its array. -/
theorem inb_sem (s : Fin 2) : ∀ a, (![s.val] : Fin 1 → ℕ) a + S1.size a ≤ S2.size a := by revert s; decide
/-- Index block `b` lies in the index list. -/
theorem inb_idx (b : Fin 1600) : ∀ a, (![0, 128 * b.val] : Fin 2 → ℕ) a + S1x128.size a ≤ S1x204800.size a := by
  intro a
  match a with
  | 0 => exact le_refl 1
  | 1 => show 128 * b.val + 128 ≤ 204800; have := b.isLt; omega
/-- Output block `b` lies in the output. -/
theorem inb_blk (b : Fin 1600) : ∀ a, (![128 * b.val, 0] : Fin 2 → ℕ) a + S128x128.size a ≤ S204800x128.size a := by
  intro a
  match a with
  | 0 => show 128 * b.val + 128 ≤ 204800; have := b.isLt; omega
  | 1 => exact le_refl 128

/-- Index slot `s`, row slot `s`, and their semaphores. -/
abbrev inSlot (s : Fin 2) : Memref sig .scVector .vmem S1x128 .i32 :=
  ((sV).slice (Rect.unit (s := S2x1x128) ![s.val, 0, 0] S1x1x128.size (inb_in s)) (fun _ => rfl)).squeeze S1x128 squeezes_S1x1x128_S1x128
abbrev outSlot (s : Fin 2) : Memref sig .scVector .vmem S128x128 .f32 :=
  ((rV).slice (Rect.unit (s := S2x128x128) ![s.val, 0, 0] S1x128x128.size (inb_out s)) (fun _ => rfl)).squeeze S128x128 squeezes_S1x128x128_S128x128
abbrev inSem (s : Fin 2) : DmaSem sig :=
  ((cc1_scoped1.slice (Rect.unit (s := S2) ![s.val] S1.size (inb_sem s))).squeeze S_ squeezes_S1_S_).sem
abbrev outSem (s : Fin 2) : DmaSem sig :=
  ((cc1_scoped3.slice (Rect.unit (s := S2) ![s.val] S1.size (inb_sem s))).squeeze S_ squeezes_S1_S_).sem
abbrev gSem : DmaSem sig := cc1_scoped4.sem
/-- Block `b` of the index list, and of the output. -/
abbrev idxBlk (b : Fin 1600) : Memref sig .scVector .hbm S1x128 .i32 :=
  (iV).slice (Rect.unit (s := S1x204800) ![0, 128 * b.val] S1x128.size (inb_idx b)) (fun _ => rfl)
abbrev outBlk (b : Fin 1600) : Memref sig .scVector .hbm S128x128 .f32 :=
  (oV).slice (Rect.unit (s := S204800x128) ![128 * b.val, 0] S128x128.size (inb_blk b)) (fun _ => rfl)
/-- The list in index slot `s`, as the gather reads it, and the table whole. -/
abbrev inList (s : Fin 2) : Memref sig .scVector .vmem S128 .i32 :=
  ((inSlot s).slice (Rect.unit (s := S1x128) ![0, 0] S1x128.size inb_S1x128_S1x128_0_0) (fun _ => rfl)).squeeze S128 squeezes_S1x128_S128
abbrev tAll : Memref sig .scVector .hbm S500000x128 .f32 :=
  (tV).slice (Rect.unit (s := S500000x128) ![0, 0] S500000x128.size inb_S500000x128_S500000x128_0_0) (fun _ => rfl)

/-- A slice of the index buffer at slot `s`'s offset is slot `s`. -/
theorem inSlot_of (s : Fin 2) {off : Fin 3 → ℕ} (h : off = ![s.val, 0, 0]) (p : ∀ a, off a + S1x1x128.size a ≤ S2x1x128.size a) :
    ((sV).slice (Rect.unit (s := S2x1x128) off S1x1x128.size p) (fun _ => rfl)).squeeze S1x128 squeezes_S1x1x128_S1x128 = inSlot s := by
  subst h; rfl
/-- A slice of the row buffer at slot `s`'s offset is slot `s`. -/
theorem outSlot_of (s : Fin 2) {off : Fin 3 → ℕ} (h : off = ![s.val, 0, 0]) (p : ∀ a, off a + S1x128x128.size a ≤ S2x128x128.size a) :
    ((rV).slice (Rect.unit (s := S2x128x128) off S1x128x128.size p) (fun _ => rfl)).squeeze S128x128 squeezes_S1x128x128_S128x128 = outSlot s := by
  subst h; rfl
/-- The fetch semaphore at offset `s` is slot `s`'s. -/
theorem inSem_of (s : Fin 2) {off : Fin 1 → ℕ} (h : off = ![s.val]) (p : ∀ a, off a + S1.size a ≤ S2.size a) :
    ((cc1_scoped1.slice (Rect.unit (s := S2) off S1.size p)).squeeze S_ squeezes_S1_S_).sem = inSem s := by
  subst h; rfl
/-- The write-out semaphore at offset `s` is slot `s`'s. -/
theorem outSem_of (s : Fin 2) {off : Fin 1 → ℕ} (h : off = ![s.val]) (p : ∀ a, off a + S1.size a ≤ S2.size a) :
    ((cc1_scoped3.slice (Rect.unit (s := S2) off S1.size p)).squeeze S_ squeezes_S1_S_).sem = outSem s := by
  subst h; rfl
/-- A slice of the index list at block `b`'s offset is block `b`. -/
theorem idxBlk_of (b : Fin 1600) {off : Fin 2 → ℕ} (h : off = ![0, 128 * b.val]) (p : ∀ a, off a + S1x128.size a ≤ S1x204800.size a) :
    (iV).slice (Rect.unit (s := S1x204800) off S1x128.size p) (fun _ => rfl) = idxBlk b := by subst h; rfl
/-- A slice of the output at block `b`'s offset is block `b`. -/
theorem outBlk_of (b : Fin 1600) {off : Fin 2 → ℕ} (h : off = ![128 * b.val, 0]) (p : ∀ a, off a + S128x128.size a ≤ S204800x128.size a) :
    (oV).slice (Rect.unit (s := S204800x128) off S128x128.size p) (fun _ => rfl) = outBlk b := by subst h; rfl

/-- A fetch semaphore is one of the two. -/
theorem inSem_val (s : Fin 2) : inSem s = if s = 0 then inSem 0 else inSem 1 := by revert s; decide

/-! ## The gathered output -/

/-- Row `x 0` of the output is the table's row named by the `x 0`-th word of the index list. -/
def gath (tb : S500000x128.Idx → Elt F .f32) (ix : S1x204800.Idx → Elt F .i32) : S204800x128.Idx → Elt F .f32 := fun x =>
  tb (Shape.pair (d := ![500000, 128]) ⟨(ix (Shape.pair (d := ![1, 204800]) ⟨0, Nat.one_pos⟩ ⟨(x 0).val, (x 0).isLt⟩)).toNat % 500000,
    Nat.mod_lt _ (by decide)⟩ ⟨(x 1).val, (x 1).isLt⟩)

/-- Two indices of rank two with equal coordinates are equal. -/
theorem idx2_ext {d : Fin 2 → ℕ} {x y : (⟨2, d⟩ : Shape).Idx} (h0 : (x 0).val = (y 0).val) (h1 : (x 1).val = (y 1).val) : x = y := by
  rw [← Shape.pair_eta x, ← Shape.pair_eta y, Fin.ext h0, Fin.ext h1]

/-- Where an entry of output block `b` lies in the output. -/
theorem emb_outBlk (b : Fin 1600) (j : S128x128.Idx) :
    (outBlk b).view.emb j = Shape.pair (d := ![204800, 128]) ⟨128 * b.val + (j 0).val, by have := b.isLt; have : (j 0).val < 128 := (j 0).isLt; show _ < 204800; omega⟩ (j 1) := by
  apply idx2_ext
  · show 128 * b.val + 1 * (j 0).val = 128 * b.val + (j 0).val; omega
  · show 0 + 1 * (j 1).val = (j 1).val; omega
/-- Where an entry of index block `b` lies in the list. -/
theorem emb_idxBlk (b : Fin 1600) (j : S1x128.Idx) :
    (idxBlk b).view.emb j = Shape.pair (d := ![1, 204800]) ⟨0, Nat.one_pos⟩ ⟨128 * b.val + (j 1).val, by have := b.isLt; have : (j 1).val < 128 := (j 1).isLt; show _ < 204800; omega⟩ := by
  apply idx2_ext
  · show 0 + 1 * (j 0).val = 0; have : (j 0).val < 1 := (j 0).isLt; omega
  · show 128 * b.val + 1 * (j 1).val = 128 * b.val + (j 1).val; omega
/-- The whole table as a slice moves no entry. -/
theorem emb_tAll (j : S500000x128.Idx) : (tAll).view.emb j = j := by
  apply idx2_ext
  · show 0 + 1 * (j 0).val = (j 0).val; omega
  · show 0 + 1 * (j 1).val = (j 1).val; omega

/-- The list in the slot at `y` is the slot at `(0, y)`. -/
theorem read_inList (s : Fin 2) (f : (sV).view.ty.Contents (Elt F)) (y : S128.Idx) :
    (inList s).view.read (Elt F) f y = (inSlot s).view.read (Elt F) f (Shape.pair (d := ![1, 128]) ⟨0, Nat.one_pos⟩ (y 0)) := by
  show (((inSlot s).view.slice (Rect.unit (s := S1x128) ![0, 0] S1x128.size inb_S1x128_S1x128_0_0)).reshape S128 squeezes_S1x128_S128.numel_eq).read (Elt F) f y = _
  have e : Shape.reshapeEquiv squeezes_S1x128_S128.numel_eq y = (Fin.cons ⟨0, Nat.one_pos⟩ y : S1x128.Idx) :=
    Shape.reshapeEquiv_cons_one (d := ![128]) _ y
  have e' : (Rect.unit (s := S1x128) ![0, 0] S1x128.size inb_S1x128_S1x128_0_0).emb (Fin.cons ⟨0, Nat.one_pos⟩ y : S1x128.Idx)
      = Shape.pair (d := ![1, 128]) ⟨0, Nat.one_pos⟩ (y 0) := by
    apply idx2_ext
    · rfl
    · show 0 + 1 * (y 0).val = (y 0).val; omega
  rw [View.read_apply, View.read_apply]
  show _root_.cast _ (f ((inSlot s).view.emb ((Rect.unit (s := S1x128) ![0, 0] S1x128.size inb_S1x128_S1x128_0_0).emb
    (Shape.reshapeEquiv squeezes_S1x128_S128.numel_eq y)))) = _
  rw [e, e']

/-- Every word of a list fetched from the index list is in range when the index list's words are. -/
theorem hin_of {ix : S1x204800.Idx → Elt F .i32} (hI : ∀ x, (ix x).toNat < 500000) {b : Fin 1600} {s : Fin 2} {f : (sV).view.ty.Contents (Elt F)}
    (hf : (inSlot s).view.read (Elt F) f = (idxBlk b).view.read (Elt F) ix) (hg : S500000x128.Gathers 0 S128x128) :
    ∀ y, ((inList s).view.read (Elt F) f y).toNat < S500000x128.size hg.axis := by
  intro y
  rw [read_inList, hf, View.read_apply, cast_eq]
  exact hI _

/-- What the gather leaves in the row slot is the block's rows of the gathered output. -/
theorem gather_read {ix : S1x204800.Idx → Elt F .i32} (hI : ∀ x, (ix x).toNat < 500000) (tb : S500000x128.Idx → Elt F .f32)
    {b : Fin 1600} {s : Fin 2} {f : (sV).view.ty.Contents (Elt F)}
    (hf : (inSlot s).view.read (Elt F) f = (idxBlk b).view.read (Elt F) ix) (hg : S500000x128.Gathers 0 S128x128)
    (hn : S128.numel = S128x128.size hg.axis') (hin : ∀ y, ((inList s).view.read (Elt F) f y).toNat < S500000x128.size hg.axis) (j : S128x128.Idx) :
    SparseCore.gatherPayload hg ((tAll).view.read (Elt F) tb) (SparseCore.rows ((inList s).view.read (Elt F) f) hn hin) j
      = gath tb ix ((outBlk b).view.emb j) := by
  unfold SparseCore.gatherPayload gath
  rw [View.read_apply, cast_eq, emb_tAll, emb_outBlk]
  congr 1
  have hy : ∀ k : Fin 128, (S128.rowMajor.symm (k.cast (show 128 = S128.numel by decide)) 0).val = k.val := by
    intro k
    have h1 : ((S128.rowMajor (S128.rowMajor.symm (k.cast (show 128 = S128.numel by decide)))) : ℕ) = k.val := by
      rw [Equiv.apply_symm_apply]; rfl
    rw [← h1]; exact (Shape.rowMajor_val_one _).symm
  apply idx2_ext
  · show ((inList s).view.read (Elt F) f (S128.rowMajor.symm _)).toNat = _ % 500000
    rw [read_inList, hf, View.read_apply, cast_eq, emb_idxBlk, Nat.mod_eq_of_lt (hI _)]
    congr 2
    apply idx2_ext
    · rfl
    · show 128 * b.val + (S128.rowMajor.symm _ 0).val = 128 * b.val + (j 0).val
      congr 1
      exact hy (j 0)
  · rfl

/-! ## Disjoint and covering -/

/-- The entries of index block `b` are those of its rectangle. -/
theorem set_idxBlk (b : Fin 1600) : (idxBlk b).view.set = (Rect.unit (s := S1x204800) ![0, 128 * b.val] S1x128.size (inb_idx b)).set :=
  View.set_slice_whole _ _
/-- The entries of output block `b` are those of its rectangle. -/
theorem set_outBlk (b : Fin 1600) : (outBlk b).view.set = (Rect.unit (s := S204800x128) ![128 * b.val, 0] S128x128.size (inb_blk b)).set :=
  View.set_slice_whole _ _
/-- The entries of index slot `s` are those of its rectangle. -/
theorem set_inSlot (s : Fin 2) : (inSlot s).view.set = (Rect.unit (s := S2x1x128) ![s.val, 0, 0] S1x1x128.size (inb_in s)).set :=
  (View.set_reshape _ _).trans (View.set_slice_whole _ _)
/-- The entries of row slot `s` are those of its rectangle. -/
theorem set_outSlot (s : Fin 2) : (outSlot s).view.set = (Rect.unit (s := S2x128x128) ![s.val, 0, 0] S1x128x128.size (inb_out s)).set :=
  (View.set_reshape _ _).trans (View.set_slice_whole _ _)
/-- The list read from a slot has the slot's entries. -/
theorem set_inList (s : Fin 2) : (inList s).view.set = (inSlot s).view.set := by
  refine (View.set_reshape _ _).trans ?_
  exact (View.set_slice _ _).trans (by
    rw [show (Rect.unit (s := S1x128) ![0, 0] S1x128.size inb_S1x128_S1x128_0_0).set = Finset.univ by decide]; rfl)

abbrev idxBlkSet (b : Fin 1600) : Finset S1x204800.Idx := (idxBlk b).view.set
abbrev outBlkSet (b : Fin 1600) : Finset S204800x128.Idx := (outBlk b).view.set
abbrev inSlotSet (b : Fin 2) : Finset S2x1x128.Idx := (inSlot b).view.set
abbrev outSlotSet (b : Fin 2) : Finset S2x128x128.Idx := (outSlot b).view.set

/-- Different index blocks share no entry. -/
theorem idx_disj (b b' : Fin 1600) (h : b ≠ b') : Disjoint (idxBlk b).view.set (idxBlk b').view.set := by
  rw [set_idxBlk, set_idxBlk]
  exact Ring.lead_disjoint (s := S1x204800) 1 128 (fun b : Fin 1600 => ![0, 128 * b.val]) S1x128.size inb_idx (fun _ => rfl) rfl b b' h
/-- The index blocks make up the list. -/
theorem idx_cover : Finset.univ.biUnion (fun b : Fin 1600 => idxBlkSet b) = Finset.univ := by
  rw [Finset.biUnion_congr (t₁ := idxBlkSet) rfl fun b _ => set_idxBlk b]
  exact Ring.lead_cover (s := S1x204800) 1 128 (fun b : Fin 1600 => ![0, 128 * b.val]) S1x128.size inb_idx (fun _ => rfl)
    (fun b a ha => by match a with | 0 => rfl | 1 => exact absurd rfl ha) rfl (fun a ha => by match a with | 0 => rfl | 1 => exact absurd rfl ha) rfl
/-- Different output blocks share no entry. -/
theorem out_disj (b b' : Fin 1600) (h : b ≠ b') : Disjoint (outBlk b).view.set (outBlk b').view.set := by
  rw [set_outBlk, set_outBlk]
  exact Ring.lead_disjoint (s := S204800x128) 0 128 (fun b : Fin 1600 => ![128 * b.val, 0]) S128x128.size inb_blk (fun _ => rfl) rfl b b' h
/-- The output blocks make up the output. -/
theorem out_cover : Finset.univ.biUnion (fun b : Fin 1600 => outBlkSet b) = Finset.univ := by
  rw [Finset.biUnion_congr (t₁ := outBlkSet) rfl fun b _ => set_outBlk b]
  exact Ring.lead_cover (s := S204800x128) 0 128 (fun b : Fin 1600 => ![128 * b.val, 0]) S128x128.size inb_blk (fun _ => rfl)
    (fun b a ha => by match a with | 1 => rfl | 0 => exact absurd rfl ha) rfl (fun a ha => by match a with | 1 => rfl | 0 => exact absurd rfl ha) rfl
/-- The index slots share no entry. -/
theorem in_disj (b b' : Fin 2) (h : b ≠ b') : Disjoint (inSlot b).view.set (inSlot b').view.set := by
  rw [set_inSlot, set_inSlot]
  exact Ring.lead_disjoint (s := S2x1x128) 0 1 (fun b : Fin 2 => ![b.val, 0, 0]) S1x1x128.size inb_in (fun b => (Nat.one_mul _).symm) rfl b b' h
/-- The index slots make up their buffer. -/
theorem in_cover : Finset.univ.biUnion (fun b : Fin 2 => inSlotSet b) = Finset.univ := by
  rw [Finset.biUnion_congr (t₁ := inSlotSet) rfl fun b _ => set_inSlot b]
  exact Ring.lead_cover (s := S2x1x128) 0 1 (fun b : Fin 2 => ![b.val, 0, 0]) S1x1x128.size inb_in (fun b => (Nat.one_mul _).symm)
    (fun b a ha => by match a with | 1 => rfl | 2 => rfl | 0 => exact absurd rfl ha) rfl (fun a ha => by match a with | 1 => rfl | 2 => rfl | 0 => exact absurd rfl ha) rfl
/-- The row slots share no entry. -/
theorem outS_disj (b b' : Fin 2) (h : b ≠ b') : Disjoint (outSlot b).view.set (outSlot b').view.set := by
  rw [set_outSlot, set_outSlot]
  exact Ring.lead_disjoint (s := S2x128x128) 0 1 (fun b : Fin 2 => ![b.val, 0, 0]) S1x128x128.size inb_out (fun b => (Nat.one_mul _).symm) rfl b b' h
/-- The row slots make up their buffer. -/
theorem outS_cover : Finset.univ.biUnion (fun b : Fin 2 => outSlotSet b) = Finset.univ := by
  rw [Finset.biUnion_congr (t₁ := outSlotSet) rfl fun b _ => set_outSlot b]
  exact Ring.lead_cover (s := S2x128x128) 0 1 (fun b : Fin 2 => ![b.val, 0, 0]) S1x128x128.size inb_out (fun b => (Nat.one_mul _).symm)
    (fun b a ha => by match a with | 1 => rfl | 2 => rfl | 0 => exact absurd rfl ha) rfl (fun a ha => by match a with | 1 => rfl | 2 => rfl | 0 => exact absurd rfl ha) rfl

end Cert.Proof.Gather
-- ==== Proof.Repack.lean ====
/-
  The repacking kernel: at each grid point it lays two consecutive rows of its block of the table side by side. Its body's
  run, the pipeline's proof data from any contents of the arrays, and the packed table the loop leaves.
-/
module

public import proofs.«01_k».proof.Proof.Tc
public import proofs.«01_k».proof.Proof.Blocks
public import Idealize.ShloMosaic.Lib.Pipeline.RegionsLoop
public import Idealize.ShloMosaic.Lib.Pipeline.ValueKit
public import Idealize.ShloMosaic.Lib.Pipeline.Covers
public import Idealize.ShloMosaic.Lib.Pipeline.FrameBody
public import Idealize.ShloMosaic.Lib.Pointwise.Reshape

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Row `r` of the packed block is rows `2r` and `2r + 1` of the block, side by side; -/
def packB (v : S20000x64.Idx → Elt F .f32) : S10000x128.Idx → Elt F .f32 := fun y =>
  v (Shape.pair (d := ![20000, 64]) ⟨2 * (y 0).val + (y 1).val / 64, by have h0 : (y 0).val < 10000 := (y 0).isLt; have h1 : (y 1).val < 128 := (y 1).isLt; show _ < 20000; omega⟩
    ⟨(y 1).val % 64, Nat.mod_lt _ (by decide)⟩)

/-- and of the packed table is rows `2r` and `2r + 1` of the table. -/
def packT (v : S1000000x64.Idx → Elt F .f32) : S500000x128.Idx → Elt F .f32 := fun y =>
  v (Shape.pair (d := ![1000000, 64]) ⟨2 * (y 0).val + (y 1).val / 64, by have h0 : (y 0).val < 500000 := (y 0).isLt; have h1 : (y 1).val < 128 := (y 1).isLt; show _ < 1000000; omega⟩
    ⟨(y 1).val % 64, Nat.mod_lt _ (by decide)⟩)

/-- The stored left half: even rows; -/
theorem pay2_apply (v : S20000x64.Idx → Elt F .f32) (x : S10000x64.Idx) (k : S20000x64.Idx) (h0 : (k 0).val = 2 * (x 0).val) (h1 : (k 1).val = (x 1).val) :
    k0_pay2 v x = v k := by
  unfold k0_pay2 k0_pay1
  refine (shapeCast_apply _ shapeCasts_S10000x1x64_S10000x64 x (fun | 0 => ⟨(x 0).val, (x 0).isLt⟩ | 1 => ⟨0, Nat.one_pos⟩ | 2 => ⟨(x 1).val, (x 1).isLt⟩) ?_).trans ?_
  · rw [rowMajor_val2 x 64 rfl, rowMajor_val3 _ 64 64 rfl rfl]
    show (x 0).val * 64 + 0 * 64 + (x 1).val = (x 0).val * 64 + (x 1).val; omega
  unfold extractStridedSlice
  refine shapeCast_apply v shapeCasts_S20000x64_S10000x2x64 _ k ?_
  rw [rowMajor_val2 k 64 rfl, rowMajor_val3 _ 128 64 rfl rfl]
  show (k 0).val * 64 + (k 1).val = (0 + (x 0).val) * 128 + (0 + 0) * 64 + (0 + (x 1).val); omega

/-- the stored right half: odd rows. -/
theorem pay3_apply (v : S20000x64.Idx → Elt F .f32) (x : S10000x64.Idx) (k : S20000x64.Idx) (h0 : (k 0).val = 2 * (x 0).val + 1) (h1 : (k 1).val = (x 1).val) :
    k0_pay3 v x = v k := by
  unfold k0_pay3 k0_pay1
  refine (shapeCast_apply _ shapeCasts_S10000x1x64_S10000x64 x (fun | 0 => ⟨(x 0).val, (x 0).isLt⟩ | 1 => ⟨0, Nat.one_pos⟩ | 2 => ⟨(x 1).val, (x 1).isLt⟩) ?_).trans ?_
  · rw [rowMajor_val2 x 64 rfl, rowMajor_val3 _ 64 64 rfl rfl]
    show (x 0).val * 64 + 0 * 64 + (x 1).val = (x 0).val * 64 + (x 1).val; omega
  unfold extractStridedSlice
  refine shapeCast_apply v shapeCasts_S20000x64_S10000x2x64 _ k ?_
  rw [rowMajor_val2 k 64 rfl, rowMajor_val3 _ 128 64 rfl rfl]
  show (k 0).val * 64 + (k 1).val = (0 + (x 0).val) * 128 + (1 + 0) * 64 + (0 + (x 1).val); omega

/-- The body's run: from its input block at `v` and its output's buffer at anything, the output's at the packed block. -/
theorem repack_body (c : Dev nD) (i : grid0.Coords) (a1 : Memref sig .tc .vmem S20000x64 .f32) (h1 : a1.IsWhole) (a2 : Memref sig .tc .vmem S10000x128 .f32) (h2 : a2.IsWhole)
    (v : S20000x64.Idx → Elt F .f32) (u : S10000x128.Idx → Elt F .f32) (Q : PUnit → sProp (MT nD τ sig (HIx 1) (Elt F) ℕ UU ℕ)) :
    iprop(owns (c : Thread nD τ) a1 fullShare v ∗ owns (c : Thread nD τ) a2 fullShare u
        ∗ (iprop(owns (c : Thread nD τ) a1 fullShare v ∗ owns (c : Thread nD τ) a2 fullShare (packB v)) -∗ Q ⟨⟩))
      ⊢ wp frame (wpE (defs₀ (F := F)) 𝒱₀ (c : Thread nD τ) none) Set.univ (cc0__repack_body i a1 h1 a2 h2) Q := by
  rw [cc0__repack_body_eq_skeleton (F := F)]
  unfold cc0__repack_body_skel
  iintro ⟨H1, H2, Hk⟩
  ihave H2 := (acc_of_owns (F := F) c a2 u (packB v) (fun _ => False) (fun _ h => h)) $$ H2
  iapply (wp_ldWhole (F := F) c v (by intro a; fin_cases a <;> rfl)) $$ H1
  iintro H1
  iapply (wp_ldAny c _ _) $$ H2
  iintro %_ H2
  iapply (wp_stAcc c (fun _ => False) (fun y => (y 1).val < 64) (packB v) ?_ ?_) $$ H2
  · intro x
    have hx : (x 1).val < 64 := (x 1).isLt
    refine pay2_apply (F := F) v x _ ?_ ?_
    · show 2 * (0 + 1 * (x 0).val) + (0 + 1 * (x 1).val) / 64 = 2 * (x 0).val; omega
    · show (0 + 1 * (x 1).val) % 64 = (x 1).val; omega
  · intro y hy
    refine .inr (Rect.mem_set_unit.mpr fun a => ?_)
    match a with
    | 0 => exact ⟨Nat.zero_le _, (y 0).isLt.trans_le (Nat.le_add_left _ _)⟩
    | 1 => exact ⟨Nat.zero_le _, by show _ < 0 + 64; omega⟩
  iintro H2
  iapply (wp_ldAny c _ _) $$ H2
  iintro %_ H2
  iapply (wp_stAcc c (fun y => (y 1).val < 64) (fun _ => True) (packB v) ?_ ?_) $$ H2
  · intro x
    have hx : (x 1).val < 64 := (x 1).isLt
    refine pay3_apply (F := F) v x _ ?_ ?_
    · show 2 * (0 + 1 * (x 0).val) + (64 + 1 * (x 1).val) / 64 = 2 * (x 0).val + 1; omega
    · show (64 + 1 * (x 1).val) % 64 = (x 1).val; omega
  · intro y _
    have h1 : (y 1).val < 128 := (y 1).isLt
    rcases Nat.lt_or_ge (y 1).val 64 with h | h
    · exact .inl h
    refine .inr (Rect.mem_set_unit.mpr fun a => ?_)
    match a with
    | 0 => exact ⟨Nat.zero_le _, (y 0).isLt.trans_le (Nat.le_add_left _ _)⟩
    | 1 => exact ⟨h, by show _ < 64 + 64; omega⟩
  iintro H2
  ihave H2 := (owns_of_acc c a2 (packB v) (fun _ => True) (fun _ => trivial)) $$ H2
  iapply (wp_done (F := F) c PUnit.unit rfl)
  iapply Hk
  isplitl [H1]; · iexact H1
  iexact H2

/-! ## The pipeline's proof data -/

/-- What the TensorCore may have waited for before SparseCore call `n`. -/
def recd (c : Dev nD) (n : ℕ) : Set (SemLoc sig × HIx 1) :=
  {p | (K (F := F)).lev (SparseCore.T c, p.1) p.2 ≤ 8 * SparseCore.Cfg.Blocks.fst (Q := 1) 1 n}

section Dat0

variable (c : Dev nD) (V : (b : Ref sig .tc) → Buf (Elt F) ((c : Thread nD τ).loc b))

/-- The input block point `t` fetches. -/
abbrev blk0 (t : Fin cfg0.N) : S20000x64.Idx → Elt F .f32 := ((cfg0.win 0).blk t).view.read (Elt F) (V main_arg1)

/-- The scoped buffers this pipeline does not stage, at anything. -/
abbrev Φ0 : sProp 𝕄 := Pipeline.scopedRest (Ix := HIx 1) (Name := ℕ) (U := UU) (Lvl := ℕ) (Val := Elt F) spec0 c

/-- The proof data of the repacking loop from contents `V`: the input block is left in place, the output's buffer is left
    at its packing; what the core owes the SparseCores is carried through. -/
def dat0 : Pipeline.Dat τ (Elt F) (HIx 1) ℕ UU ℕ cfg0 c where
  A w := V (Pipeline.arrRef spec0 w)
  after w t := match w with
    | ⟨0, _⟩ => blk0 c V t
    | ⟨1, _⟩ => packB (blk0 c V t)
  Φ _ := Φ0 c
  q _ := fullShare
  owed _ := (K (F := F)).Otc c 0
  recorded _ := recd (F := F) c 0

/-- The input's buffer holds its block when the body runs. -/
theorem before0 (t : Fin cfg0.N) (d : (cfg0.win 0).block.Idx → Elt F (cfg0.win 0).elt) : (dat0 c V).before 0 t d = blk0 c V t :=
  (dat0 c V).before_fetched 0 t (fetch0_0 t) d

/-- The body's obligation at every point. -/
theorem obligation0 : Pipeline.BodyObligation (dat0 c V) (defs₀ (F := F)) 𝒱₀ none Set.univ := fun t => by
  rw [bigSep_W0, bigSep_W0]
  iintro ⟨HΦ, Howes, ⟨%d0, H0⟩, ⟨%d1, H1⟩⟩
  ihave H0 := (Entails.of_eq (congrArg (owns (c : Thread nD τ) (st0_0 t) fullShare) (before0 c V t d0))) $$ H0
  iapply (repack_body c (grid0.coords t) (st0_0 t) (hstage0_0 ((cfg0.slots t 0).cast nbuf0_0)) (st0_1 t) (hstage0_1 ((cfg0.slots t 1).cast nbuf0_1)) (blk0 c V t) _ _)
  isplitl [H0]; · iexact H0
  isplitl [H1]; · iexact H1
  iintro ⟨H0, H1⟩
  isplitl [HΦ]; · iapply (Entails.of_eq (show (dat0 c V).Φ t.castSucc = (dat0 c V).Φ t.succ from rfl)); iexact HΦ
  isplitl [Howes]; · iapply (Entails.of_eq (show (dat0 c V).owesAt none t.castSucc = (dat0 c V).owesAt none t.succ from rfl)); iexact Howes
  isplitl [H0]; · iexact H0
  iexact H1

/-- The array the loop leaves is the packed table. -/
theorem packed : (dat0 c V).arrAt 1 cfg0.N = packT (V main_arg1) := by
  refine (dat0 c V).arrAt_eq_of_covers 1 _ (by decide +kernel) fun t hf y => ?_
  have e0 : ∀ t : Fin cfg0.N, win0_0.index t = ![t.val, 0] := (by decide +kernel : ∀ t : Fin grid0.N, win0_0.index t = ![t.val, 0])
  have e1 : ∀ t : Fin cfg0.N, win0_1.index t = ![t.val, 0] := (by decide +kernel : ∀ t : Fin grid0.N, win0_1.index t = ![t.val, 0])
  blk_simp [e0, e1]
  have hy0 : (y 0).val < 10000 := (y 0).isLt
  have hy1 : (y 1).val < 128 := (y 1).isLt
  have I0 : win0_1.index t 0 = t.val := by rw [e1]; rfl
  have I1 : win0_1.index t 1 = 0 := by rw [e1]; rfl
  show V main_arg1 ((win0_0.blk t).view.emb (Shape.pair (d := ![20000, 64]) _ _)) = V main_arg1 (Shape.pair (d := ![1000000, 64]) _ _)
  refine congrArg (V main_arg1) (idx2_ext ?_ ?_)
  · blk_simp [e0]
    show t.val * 20000 + (2 * (y 0).val + (y 1).val / 64) = 2 * (win0_1.index t 0 * 10000 + (y 0).val) + (win0_1.index t 1 * 128 + (y 1).val) / 64
    rw [I0, I1]; omega
  · blk_simp [e0]
    show (y 1).val % 64 = (win0_1.index t 1 * 128 + (y 1).val) % 64
    rw [I1]; omega

end Dat0

end Cert.Proof.Gather
-- ==== Proof.Concat.lean ====
/-
  What the MLP kernel lays side by side in its scratch: 54 column blocks of 64, the first two and last two the table's row
  0, the others the half of a gathered row that an index's low bit chooses; and the store of each block.
-/
module

public import proofs.«01_k».proof.Proof.Repack

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Entry `(b, x)` of the half of row `256 j + b` that bit `(b, j)` chooses. -/
def half (v : S12800x128.Idx → Elt F .f32) (h : S256x64.Idx → Elt F .i32) (j : Fin 50) (b : Fin 256) (x : Fin 64) : Elt F .f32 :=
  if h (Shape.pair (d := ![256, 64]) b ⟨j.val, by have := j.isLt; show _ < 64; omega⟩) = 1#32
  then v (Shape.pair (d := ![12800, 128]) ⟨256 * j.val + b.val, by have := j.isLt; have := b.isLt; show _ < 12800; omega⟩ ⟨64 + x.val, by have := x.isLt; show _ < 128; omega⟩)
  else v (Shape.pair (d := ![12800, 128]) ⟨256 * j.val + b.val, by have := j.isLt; have := b.isLt; show _ < 12800; omega⟩ ⟨x.val, by have := x.isLt; show _ < 128; omega⟩)

/-- The scratch once filled. -/
def cat (v : S12800x128.Idx → Elt F .f32) (h : S256x64.Idx → Elt F .i32) (r : S1x64.Idx → Elt F .f32) : S256x3456.Idx → Elt F .f32 := fun y =>
  if hk : 2 ≤ (y 1).val / 64 ∧ (y 1).val / 64 < 52
  then half v h ⟨(y 1).val / 64 - 2, by omega⟩ (y 0) ⟨(y 1).val % 64, Nat.mod_lt _ (by decide)⟩
  else r (Shape.pair (d := ![1, 64]) ⟨0, Nat.one_pos⟩ ⟨(y 1).val % 64, Nat.mod_lt _ (by decide)⟩)

/-- A choice by equality with one. -/
theorem sel_eq {β : Type} (z : BitVec 32) (p q : β) : Scalar.select (BitVec.ofBool (z == 1#32)) p q = if z = 1#32 then p else q := by
  unfold Scalar.select
  by_cases hz : z = 1#32
  · rw [if_pos hz, show (z == 1#32) = true from beq_iff_eq.mpr hz]; rfl
  · rw [if_neg hz, show (z == 1#32) = false from beq_false_of_ne hz]; rfl

/-- The stored choice, at an entry. -/
theorem pay5_apply (a : S256x1.Idx → Elt F .i32) (b : S256x128.Idx → Elt F .f32) (x : S256x64.Idx) :
    k2_pay5 a b x = if a (Shape.pair (d := ![256, 1]) (x 0) ⟨0, Nat.one_pos⟩) = 1#32
      then b (Shape.pair (d := ![256, 128]) (x 0) ⟨64 + (x 1).val, by have h1 : (x 1).val < 64 := (x 1).isLt; show _ < 128; omega⟩)
      else b (Shape.pair (d := ![256, 128]) (x 0) ⟨(x 1).val, by have h1 : (x 1).val < 64 := (x 1).isLt; show _ < 128; omega⟩) := by
  unfold k2_pay5
  simp only [shapeCast_id]
  unfold select
  rw [broadcastTo_apply _ _ x (Shape.pair (d := ![256, 1]) (x 0) ⟨0, Nat.one_pos⟩) (by intro a; fin_cases a <;> rfl)]
  refine (sel_eq _ _ _).trans ?_
  refine if_congr Iff.rfl (congrArg b (idx2_ext ?_ ?_)) (congrArg b (idx2_ext ?_ ?_))
  · show 0 + (x 0).val = (x 0).val; omega
  · rfl
  · show 0 + (x 0).val = (x 0).val; omega
  · show 0 + (x 1).val = (x 1).val; omega

/-- The stored row 0, at an entry. -/
theorem pay2r_apply (r : S1x64.Idx → Elt F .f32) (x : S256x64.Idx) :
    k2_pay2 r x = r (Shape.pair (d := ![1, 64]) ⟨0, Nat.one_pos⟩ (x 1)) := by
  unfold k2_pay2
  simp only [shapeCast_id]
  exact broadcastTo_apply _ _ x _ (by intro a; fin_cases a <;> rfl)

/-- The region filled by the first `n` blocks. -/
def upTo (n : ℕ) (y : S256x3456.Idx) : Prop := (y 1).val < 64 * n

variable (c : Dev nD) {α : Type} {Q : α → sProp (MT nD τ sig (HIx 1) (Elt F) ℕ UU ℕ)}
variable (v : S12800x128.Idx → Elt F .f32) (h : S256x64.Idx → Elt F .i32) (r : S1x64.Idx → Elt F .f32)

/-- An entry among the first `n + 1` blocks is among the first `n` or in the next one. -/
theorem upTo_step {n : ℕ} {off : Fin 2 → ℕ} {inb : ∀ a, off a + S256x64.size a ≤ S256x3456.size a} (e : off = ![0, 64 * n])
    (y : S256x3456.Idx) (hy : upTo (n + 1) y) : upTo n y ∨ y ∈ (Rect.unit (s := S256x3456) off S256x64.size inb).set := by
  subst e
  unfold upTo at hy ⊢
  rcases Nat.lt_or_ge (y 1).val (64 * n) with h | h
  · exact .inl h
  refine .inr (Rect.mem_set_unit.mpr fun a => ?_)
  match a with
  | 0 => exact ⟨Nat.zero_le _, (y 0).isLt.trans_le (Nat.le_add_left _ _)⟩
  | 1 => exact ⟨h, by show _ < 64 * n + 64; omega⟩

/-- The store of chosen half-row `j` fills block `j + 2`. -/
theorem wp_stHalf {m : Memref sig .tc .vmem S256x3456 .f32} (j : ℕ) (hj : j < 50) {o₁ o₂ o₃ : Fin 2 → ℕ}
    {i₁ : ∀ a, o₁ a + S256x1.size a ≤ S256x64.size a} {i₂ : ∀ a, o₂ a + S256x128.size a ≤ S12800x128.size a} {i₃ : ∀ a, o₃ a + S256x64.size a ≤ S256x3456.size a}
    {w : S256x64.Idx → Elt F .f32}
    {hx : (m.access (Rect.unit (s := S256x3456) o₃ S256x64.size i₃)).Stores Finset.univ} {hm : Finset.univ = Finset.univ ∨ ∀ a, (Rect.unit (s := S256x3456) o₃ S256x64.size i₃).stride a = 1}
    {k : PUnit → Prog (TpuEff nD τ sig (Elt F) Λ₀ .tc) α}
    (hw : w = k2_pay5 (fun x => h ((Rect.unit (s := S256x64) o₁ S256x1.size i₁).toLoadRect.idx x)) (fun x => v ((Rect.unit (s := S12800x128) o₂ S256x128.size i₂).toLoadRect.idx x)))
    (e₁ : o₁ = ![0, j]) (e₂ : o₂ = ![256 * j, 0]) (e₃ : o₃ = ![0, 64 * (j + 2)]) :
    Acc c m (upTo (j + 2)) (cat v h r)
      ⊢ iprop((Acc c m (upTo (j + 3)) (cat v h r) -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := S256x3456) o₃ S256x64.size i₃) w Finset.univ hx hm) k) Q) := by
  refine wp_stAcc c _ _ _ (fun x => ?_) (upTo_step e₃)
  subst hw e₁ e₂ e₃
  have h0 : (x 0).val < 256 := (x 0).isLt
  have h1 : (x 1).val < 64 := (x 1).isLt
  refine (pay5_apply _ _ x).trans ?_
  have hc : ((Rect.unit (s := S256x3456) ![0, 64 * (j + 2)] S256x64.size i₃).emb x 1).val = 64 * (j + 2) + (x 1).val := by
    show 64 * (j + 2) + 1 * (x 1).val = _; omega
  unfold cat
  rw [dif_pos (by omega)]
  unfold half
  refine if_congr (Eq.congr (congrArg h (idx2_ext ?_ ?_)) rfl) (congrArg v (idx2_ext ?_ ?_)) (congrArg v (idx2_ext ?_ ?_))
  · show 0 + 1 * (x 0).val = 0 + 1 * (x 0).val; rfl
  · show j + 1 * 0 = ((Rect.unit (s := S256x3456) ![0, 64 * (j + 2)] S256x64.size i₃).emb x 1).val / 64 - 2; omega
  · show 256 * j + 1 * (x 0).val = 256 * (((Rect.unit (s := S256x3456) ![0, 64 * (j + 2)] S256x64.size i₃).emb x 1).val / 64 - 2) + (0 + 1 * (x 0).val); omega
  · show 0 + 1 * (64 + (x 1).val) = 64 + ((Rect.unit (s := S256x3456) ![0, 64 * (j + 2)] S256x64.size i₃).emb x 1).val % 64; omega
  · show 256 * j + 1 * (x 0).val = 256 * (((Rect.unit (s := S256x3456) ![0, 64 * (j + 2)] S256x64.size i₃).emb x 1).val / 64 - 2) + (0 + 1 * (x 0).val); omega
  · show 0 + 1 * (x 1).val = ((Rect.unit (s := S256x3456) ![0, 64 * (j + 2)] S256x64.size i₃).emb x 1).val % 64; omega

/-- The store of row 0 fills block `n`, one of the first two or the last two. -/
theorem wp_stPad {m : Memref sig .tc .vmem S256x3456 .f32} (n : ℕ) (hn : n < 2 ∨ 52 ≤ n ∧ n < 54) {o₃ : Fin 2 → ℕ} {i₃ : ∀ a, o₃ a + S256x64.size a ≤ S256x3456.size a}
    {w : S256x64.Idx → Elt F .f32}
    {hx : (m.access (Rect.unit (s := S256x3456) o₃ S256x64.size i₃)).Stores Finset.univ} {hm : Finset.univ = Finset.univ ∨ ∀ a, (Rect.unit (s := S256x3456) o₃ S256x64.size i₃).stride a = 1}
    {k : PUnit → Prog (TpuEff nD τ sig (Elt F) Λ₀ .tc) α}
    (hw : w = k2_pay3 r) (e₃ : o₃ = ![0, 64 * n]) :
    Acc c m (upTo n) (cat v h r)
      ⊢ iprop((Acc c m (upTo (n + 1)) (cat v h r) -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit (s := S256x3456) o₃ S256x64.size i₃) w Finset.univ hx hm) k) Q) := by
  refine wp_stAcc c _ _ _ (fun x => ?_) (upTo_step e₃)
  subst hw e₃
  have h1 : (x 1).val < 64 := (x 1).isLt
  have hc : ((Rect.unit (s := S256x3456) ![0, 64 * n] S256x64.size i₃).emb x 1).val = 64 * n + (x 1).val := by
    show 64 * n + 1 * (x 1).val = _; omega
  unfold k2_pay3 cat
  simp only [shapeCast_id]
  rw [dif_neg (show ¬ (2 ≤ ((Rect.unit (s := S256x3456) ![0, 64 * n] S256x64.size i₃).emb x 1).val / 64 ∧ ((Rect.unit (s := S256x3456) ![0, 64 * n] S256x64.size i₃).emb x 1).val / 64 < 52) by omega)]
  refine (pay2r_apply r x).trans (congrArg r (idx2_ext rfl ?_))
  show (x 1).val = ((Rect.unit (s := S256x3456) ![0, 64 * n] S256x64.size i₃).emb x 1).val % 64; omega

end Cert.Proof.Gather
-- ==== Proof.Parts.lean ====
/-
  The MLP kernel's body, part by part: each stores some more of the column blocks, and hands on what it has computed of the
  next one.
-/
module

public import proofs.«01_k».proof.Proof.Concat

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

variable (c : Dev nD) (i : grid2.Coords) (a1 : Memref sig .tc .vmem S12800x128 .f32) (ha1 : a1.IsWhole) (a2 : Memref sig .tc .vmem S256x64 .i32) (ha2 : a2.IsWhole) (a3 : Memref sig .tc .vmem S1x64 .f32) (ha3 : a3.IsWhole) (a4 : Memref sig .tc .vmem S3328x1024 .bf16) (ha4 : a4.IsWhole) (a5 : Memref sig .tc .vmem S1x1024 .f32) (ha5 : a5.IsWhole) (a6 : Memref sig .tc .vmem S1024x1000 .bf16) (ha6 : a6.IsWhole) (a7 : Memref sig .tc .vmem S1x1000 .f32) (ha7 : a7.IsWhole) (a8 : Memref sig .tc .vmem S256x1000 .f32) (ha8 : a8.IsWhole) (a9 : Memref sig .tc .vmem S256x3456 .f32) (ha9 : a9.IsWhole)
variable (v : S12800x128.Idx → Elt F .f32) (h : S256x64.Idx → Elt F .i32) (r : S1x64.Idx → Elt F .f32)

/-- The column and the rows a load reads. -/
abbrev hcol {o : Fin 2 → ℕ} (i : ∀ a, o a + S256x1.size a ≤ S256x64.size a) : S256x1.Idx → Elt F .i32 :=
  fun x => h ((Rect.unit (s := S256x64) o S256x1.size i).toLoadRect.idx x)
abbrev rws {o : Fin 2 → ℕ} (i : ∀ a, o a + S256x128.size a ≤ S12800x128.size a) : S256x128.Idx → Elt F .f32 :=
  fun x => v ((Rect.unit (s := S12800x128) o S256x128.size i).toLoadRect.idx x)

/-! Part `n` of the body, from the blocks filled before it to those filled after it, at what it returns. -/

/-- Part 1 of the body takes the scratch from 0 filled blocks to 3. -/
theorem part1 {Q : (Σ' (v3 : FVec F S256x64 .f32) (v34 : FVec F S256x64 .f32), Vec F S256x64 .f32) → sProp (MT nD τ sig (HIx 1) (Elt F) ℕ UU ℕ)} :
    iprop(owns (c : Thread nD τ) a1 fullShare v ∗ owns (c : Thread nD τ) a2 fullShare h ∗ owns (c : Thread nD τ) a3 fullShare r ∗ Acc c a9 (upTo 0) (cat v h r)
        ∗ (∀ v35, iprop(owns (c : Thread nD τ) a1 fullShare v ∗ owns (c : Thread nD τ) a2 fullShare h ∗ owns (c : Thread nD τ) a3 fullShare r ∗ Acc c a9 (upTo 3) (cat v h r)) -∗ Q ⟨k2_pay2 r, k2_pay6 (hcol h inb_S256x64_S256x1_0_1) (rws v inb_S12800x128_S256x128_256_0), v35⟩))
      ⊢ wp frame (wpE (defs₀ (F := F)) 𝒱₀ (c : Thread nD τ) none) Set.univ (k2_part1 i a1 ha1 a2 ha2 a3 ha3 a4 ha4 a5 ha5 a6 ha6 a7 ha7 a8 ha8 a9 ha9 ) Q := by
  rw [k2_part1_eq_skeleton (F := F)]
  unfold k2_part1_skel
  iintro ⟨H1, H2, H3, H9, Hk⟩
  iapply (wp_ldWhole (F := F) c r (by intro a; fin_cases a <;> rfl)) $$ H3
  iintro H3
  iapply (wp_ldAny c _ _) $$ H9
  iintro %v4 H9
  iapply (wp_stPad (F := F) c v h r 0 (by decide) (w := (k2_pay3 r)) rfl rfl) $$ H9
  iintro H9
  iapply (wp_ldAny c _ _) $$ H9
  iintro %v7 H9
  iapply (wp_stPad (F := F) c v h r 1 (by decide) (w := (k2_pay4 r)) rfl rfl) $$ H9
  iintro H9
  iapply (wp_ld (F := F) c h) $$ H2
  iintro H2
  iapply (wp_ld (F := F) c v) $$ H1
  iintro H1
  iapply (wp_ldAny c _ _) $$ H9
  iintro %v21 H9
  iapply (wp_stHalf (F := F) c v h r 0 (by decide) (i₁ := inb_S256x64_S256x1_0_0) (i₂ := inb_S12800x128_S256x128_0_0) (w := (k2_pay5 (hcol h inb_S256x64_S256x1_0_0) (rws v inb_S12800x128_S256x128_0_0))) rfl rfl rfl rfl) $$ H9
  iintro H9
  iapply (wp_ld (F := F) c h) $$ H2
  iintro H2
  iapply (wp_ld (F := F) c v) $$ H1
  iintro H1
  iapply (wp_ldAny c _ _) $$ H9
  iintro %v35 H9
  iapply (wp_done (F := F) (α := (Σ' (v3 : FVec F S256x64 .f32) (v34 : FVec F S256x64 .f32), Vec F S256x64 .f32)) (Q := Q) c ⟨k2_pay2 r, k2_pay6 (hcol h inb_S256x64_S256x1_0_1) (rws v inb_S12800x128_S256x128_256_0), v35⟩ rfl)
  iapply Hk
  isplitl [H1]; · iexact H1
  isplitl [H2]; · iexact H2
  isplitl [H3]; · iexact H3
  iexact H9

/-- Part 2 of the body takes the scratch from 3 filled blocks to 6. -/
theorem part2 (v35 : S256x64.Idx → Elt F .f32) {Q : (Σ' (v69 : IVec S256x1 1) (v72 : FVec F S256x64 .f32), FVec F S256x64 .f32) → sProp (MT nD τ sig (HIx 1) (Elt F) ℕ UU ℕ)} :
    iprop(owns (c : Thread nD τ) a1 fullShare v ∗ owns (c : Thread nD τ) a2 fullShare h ∗ Acc c a9 (upTo 3) (cat v h r)
        ∗ (iprop(owns (c : Thread nD τ) a1 fullShare v ∗ owns (c : Thread nD τ) a2 fullShare h ∗ Acc c a9 (upTo 6) (cat v h r)) -∗ Q ⟨k2_pay10 (hcol h inb_S256x64_S256x1_0_4), k2_pay12 (rws v inb_S12800x128_S256x128_1024_0), k2_pay13 (rws v inb_S12800x128_S256x128_1024_0)⟩))
      ⊢ wp frame (wpE (defs₀ (F := F)) 𝒱₀ (c : Thread nD τ) none) Set.univ (k2_part2 i a1 ha1 a2 ha2 a3 ha3 a4 ha4 a5 ha5 a6 ha6 a7 ha7 a8 ha8 a9 ha9 (k2_pay6 (hcol h inb_S256x64_S256x1_0_1) (rws v inb_S12800x128_S256x128_256_0)) v35) Q := by
  rw [k2_part2_eq_skeleton (F := F)]
  unfold k2_part2_skel
  iintro ⟨H1, H2, H9, Hk⟩
  iapply (wp_stHalf (F := F) c v h r 1 (by decide) (i₁ := inb_S256x64_S256x1_0_1) (i₂ := inb_S12800x128_S256x128_256_0) (w := (k2_pay7 (k2_pay6 (hcol h inb_S256x64_S256x1_0_1) (rws v inb_S12800x128_S256x128_256_0)))) rfl rfl rfl rfl) $$ H9
  iintro H9
  iapply (wp_ld (F := F) c h) $$ H2
  iintro H2
  iapply (wp_ld (F := F) c v) $$ H1
  iintro H1
  iapply (wp_ldAny c _ _) $$ H9
  iintro %v49 H9
  iapply (wp_stHalf (F := F) c v h r 2 (by decide) (i₁ := inb_S256x64_S256x1_0_2) (i₂ := inb_S12800x128_S256x128_512_0) (w := (k2_pay8 (hcol h inb_S256x64_S256x1_0_2) (rws v inb_S12800x128_S256x128_512_0))) rfl rfl rfl rfl) $$ H9
  iintro H9
  iapply (wp_ld (F := F) c h) $$ H2
  iintro H2
  iapply (wp_ld (F := F) c v) $$ H1
  iintro H1
  iapply (wp_ldAny c _ _) $$ H9
  iintro %v63 H9
  iapply (wp_stHalf (F := F) c v h r 3 (by decide) (i₁ := inb_S256x64_S256x1_0_3) (i₂ := inb_S12800x128_S256x128_768_0) (w := (k2_pay9 (hcol h inb_S256x64_S256x1_0_3) (rws v inb_S12800x128_S256x128_768_0))) rfl rfl rfl rfl) $$ H9
  iintro H9
  iapply (wp_ld (F := F) c h) $$ H2
  iintro H2
  iapply (wp_ld (F := F) c v) $$ H1
  iintro H1
  iapply (wp_done (F := F) (α := (Σ' (v69 : IVec S256x1 1) (v72 : FVec F S256x64 .f32), FVec F S256x64 .f32)) (Q := Q) c ⟨k2_pay10 (hcol h inb_S256x64_S256x1_0_4), k2_pay12 (rws v inb_S12800x128_S256x128_1024_0), k2_pay13 (rws v inb_S12800x128_S256x128_1024_0)⟩ rfl)
  iapply Hk
  isplitl [H1]; · iexact H1
  isplitl [H2]; · iexact H2
  iexact H9

/-- Part 3 of the body takes the scratch from 6 filled blocks to 9. -/
theorem part3 {Q : (IVec S256x1 1) → sProp (MT nD τ sig (HIx 1) (Elt F) ℕ UU ℕ)} :
    iprop(owns (c : Thread nD τ) a1 fullShare v ∗ owns (c : Thread nD τ) a2 fullShare h ∗ Acc c a9 (upTo 6) (cat v h r)
        ∗ (iprop(owns (c : Thread nD τ) a1 fullShare v ∗ owns (c : Thread nD τ) a2 fullShare h ∗ Acc c a9 (upTo 9) (cat v h r)) -∗ Q ((k2_pay17 (hcol h inb_S256x64_S256x1_0_7)))))
      ⊢ wp frame (wpE (defs₀ (F := F)) 𝒱₀ (c : Thread nD τ) none) Set.univ (k2_part3 i a1 ha1 a2 ha2 a3 ha3 a4 ha4 a5 ha5 a6 ha6 a7 ha7 a8 ha8 a9 ha9 (k2_pay10 (hcol h inb_S256x64_S256x1_0_4)) (k2_pay12 (rws v inb_S12800x128_S256x128_1024_0)) (k2_pay13 (rws v inb_S12800x128_S256x128_1024_0))) Q := by
  rw [k2_part3_eq_skeleton (F := F)]
  unfold k2_part3_skel
  iintro ⟨H1, H2, H9, Hk⟩
  iapply (wp_ldAny c _ _) $$ H9
  iintro %v77 H9
  iapply (wp_stHalf (F := F) c v h r 4 (by decide) (i₁ := inb_S256x64_S256x1_0_4) (i₂ := inb_S12800x128_S256x128_1024_0) (w := (k2_pay14 (k2_pay10 (hcol h inb_S256x64_S256x1_0_4)) (k2_pay12 (rws v inb_S12800x128_S256x128_1024_0)) (k2_pay13 (rws v inb_S12800x128_S256x128_1024_0)))) rfl rfl rfl rfl) $$ H9
  iintro H9
  iapply (wp_ld (F := F) c h) $$ H2
  iintro H2
  iapply (wp_ld (F := F) c v) $$ H1
  iintro H1
  iapply (wp_ldAny c _ _) $$ H9
  iintro %v91 H9
  iapply (wp_stHalf (F := F) c v h r 5 (by decide) (i₁ := inb_S256x64_S256x1_0_5) (i₂ := inb_S12800x128_S256x128_1280_0) (w := (k2_pay15 (hcol h inb_S256x64_S256x1_0_5) (rws v inb_S12800x128_S256x128_1280_0))) rfl rfl rfl rfl) $$ H9
  iintro H9
  iapply (wp_ld (F := F) c h) $$ H2
  iintro H2
  iapply (wp_ld (F := F) c v) $$ H1
  iintro H1
  iapply (wp_ldAny c _ _) $$ H9
  iintro %v105 H9
  iapply (wp_stHalf (F := F) c v h r 6 (by decide) (i₁ := inb_S256x64_S256x1_0_6) (i₂ := inb_S12800x128_S256x128_1536_0) (w := (k2_pay16 (hcol h inb_S256x64_S256x1_0_6) (rws v inb_S12800x128_S256x128_1536_0))) rfl rfl rfl rfl) $$ H9
  iintro H9
  iapply (wp_ld (F := F) c h) $$ H2
  iintro H2
  iapply (wp_done (F := F) (α := (IVec S256x1 1)) (Q := Q) c ((k2_pay17 (hcol h inb_S256x64_S256x1_0_7))) rfl)
  iapply Hk
  isplitl [H1]; · iexact H1
  isplitl [H2]; · iexact H2
  iexact H9

/-- Part 4 of the body takes the scratch from 9 filled blocks to 12. -/
theorem part4 {Q : (PUnit) → sProp (MT nD τ sig (HIx 1) (Elt F) ℕ UU ℕ)} :
    iprop(owns (c : Thread nD τ) a1 fullShare v ∗ owns (c : Thread nD τ) a2 fullShare h ∗ Acc c a9 (upTo 9) (cat v h r)
        ∗ (iprop(owns (c : Thread nD τ) a1 fullShare v ∗ owns (c : Thread nD τ) a2 fullShare h ∗ Acc c a9 (upTo 12) (cat v h r)) -∗ Q PUnit.unit))
      ⊢ wp frame (wpE (defs₀ (F := F)) 𝒱₀ (c : Thread nD τ) none) Set.univ (k2_part4 i a1 ha1 a2 ha2 a3 ha3 a4 ha4 a5 ha5 a6 ha6 a7 ha7 a8 ha8 a9 ha9 ((k2_pay17 (hcol h inb_S256x64_S256x1_0_7)))) Q := by
  rw [k2_part4_eq_skeleton (F := F)]
  unfold k2_part4_skel
  iintro ⟨H1, H2, H9, Hk⟩
  iapply (wp_ld (F := F) c v) $$ H1
  iintro H1
  iapply (wp_ldAny c _ _) $$ H9
  iintro %v119 H9
  iapply (wp_stHalf (F := F) c v h r 7 (by decide) (i₁ := inb_S256x64_S256x1_0_7) (i₂ := inb_S12800x128_S256x128_1792_0) (w := (k2_pay18 ((k2_pay17 (hcol h inb_S256x64_S256x1_0_7))) (rws v inb_S12800x128_S256x128_1792_0))) rfl rfl rfl rfl) $$ H9
  iintro H9
  iapply (wp_ld (F := F) c h) $$ H2
  iintro H2
  iapply (wp_ld (F := F) c v) $$ H1
  iintro H1
  iapply (wp_ldAny c _ _) $$ H9
  iintro %v133 H9
  iapply (wp_stHalf (F := F) c v h r 8 (by decide) (i₁ := inb_S256x64_S256x1_0_8) (i₂ := inb_S12800x128_S256x128_2048_0) (w := (k2_pay19 (hcol h inb_S256x64_S256x1_0_8) (rws v inb_S12800x128_S256x128_2048_0))) rfl rfl rfl rfl) $$ H9
  iintro H9
  iapply (wp_ld (F := F) c h) $$ H2
  iintro H2
  iapply (wp_ld (F := F) c v) $$ H1
  iintro H1
  iapply (wp_ldAny c _ _) $$ H9
  iintro %v147 H9
  iapply (wp_stHalf (F := F) c v h r 9 (by decide) (i₁ := inb_S256x64_S256x1_0_9) (i₂ := inb_S12800x128_S256x128_2304_0) (w := (k2_pay20 (hcol h inb_S256x64_S256x1_0_9) (rws v inb_S12800x128_S256x128_2304_0))) rfl rfl rfl rfl) $$ H9
  iintro H9
  iapply (wp_done (F := F) (α := (PUnit)) (Q := Q) c PUnit.unit rfl)
  iapply Hk
  isplitl [H1]; · iexact H1
  isplitl [H2]; · iexact H2
  iexact H9

/-- Part 5 of the body takes the scratch from 12 filled blocks to 14. -/
theorem part5 {Q : (FVec F S256x64 .f32) → sProp (MT nD τ sig (HIx 1) (Elt F) ℕ UU ℕ)} :
    iprop(owns (c : Thread nD τ) a1 fullShare v ∗ owns (c : Thread nD τ) a2 fullShare h ∗ Acc c a9 (upTo 12) (cat v h r)
        ∗ (iprop(owns (c : Thread nD τ) a1 fullShare v ∗ owns (c : Thread nD τ) a2 fullShare h ∗ Acc c a9 (upTo 14) (cat v h r)) -∗ Q ((k2_pay23 (hcol h inb_S256x64_S256x1_0_12) (rws v inb_S12800x128_S256x128_3072_0)))))
      ⊢ wp frame (wpE (defs₀ (F := F)) 𝒱₀ (c : Thread nD τ) none) Set.univ (k2_part5 i a1 ha1 a2 ha2 a3 ha3 a4 ha4 a5 ha5 a6 ha6 a7 ha7 a8 ha8 a9 ha9 ) Q := by
  rw [k2_part5_eq_skeleton (F := F)]
  unfold k2_part5_skel
  iintro ⟨H1, H2, H9, Hk⟩
  iapply (wp_ld (F := F) c h) $$ H2
  iintro H2
  iapply (wp_ld (F := F) c v) $$ H1
  iintro H1
  iapply (wp_ldAny c _ _) $$ H9
  iintro %v161 H9
  iapply (wp_stHalf (F := F) c v h r 10 (by decide) (i₁ := inb_S256x64_S256x1_0_10) (i₂ := inb_S12800x128_S256x128_2560_0) (w := (k2_pay21 (hcol h inb_S256x64_S256x1_0_10) (rws v inb_S12800x128_S256x128_2560_0))) rfl rfl rfl rfl) $$ H9
  iintro H9
  iapply (wp_ld (F := F) c h) $$ H2
  iintro H2
  iapply (wp_ld (F := F) c v) $$ H1
  iintro H1
  iapply (wp_ldAny c _ _) $$ H9
  iintro %v175 H9
  iapply (wp_stHalf (F := F) c v h r 11 (by decide) (i₁ := inb_S256x64_S256x1_0_11) (i₂ := inb_S12800x128_S256x128_2816_0) (w := (k2_pay22 (hcol h inb_S256x64_S256x1_0_11) (rws v inb_S12800x128_S256x128_2816_0))) rfl rfl rfl rfl) $$ H9
  iintro H9
  iapply (wp_ld (F := F) c h) $$ H2
  iintro H2
  iapply (wp_ld (F := F) c v) $$ H1
  iintro H1
  iapply (wp_done (F := F) (α := (FVec F S256x64 .f32)) (Q := Q) c ((k2_pay23 (hcol h inb_S256x64_S256x1_0_12) (rws v inb_S12800x128_S256x128_3072_0))) rfl)
  iapply Hk
  isplitl [H1]; · iexact H1
  isplitl [H2]; · iexact H2
  iexact H9

/-- Part 6 of the body takes the scratch from 14 filled blocks to 17. -/
theorem part6 {Q : (Σ' (v223 : IVec S256x1 1), FVec F S256x128 .f32) → sProp (MT nD τ sig (HIx 1) (Elt F) ℕ UU ℕ)} :
    iprop(owns (c : Thread nD τ) a1 fullShare v ∗ owns (c : Thread nD τ) a2 fullShare h ∗ Acc c a9 (upTo 14) (cat v h r)
        ∗ (iprop(owns (c : Thread nD τ) a1 fullShare v ∗ owns (c : Thread nD τ) a2 fullShare h ∗ Acc c a9 (upTo 17) (cat v h r)) -∗ Q ⟨k2_pay27 (hcol h inb_S256x64_S256x1_0_15), k2_pay28 (rws v inb_S12800x128_S256x128_3840_0)⟩))
      ⊢ wp frame (wpE (defs₀ (F := F)) 𝒱₀ (c : Thread nD τ) none) Set.univ (k2_part6 i a1 ha1 a2 ha2 a3 ha3 a4 ha4 a5 ha5 a6 ha6 a7 ha7 a8 ha8 a9 ha9 ((k2_pay23 (hcol h inb_S256x64_S256x1_0_12) (rws v inb_S12800x128_S256x128_3072_0)))) Q := by
  rw [k2_part6_eq_skeleton (F := F)]
  unfold k2_part6_skel
  iintro ⟨H1, H2, H9, Hk⟩
  iapply (wp_ldAny c _ _) $$ H9
  iintro %v189 H9
  iapply (wp_stHalf (F := F) c v h r 12 (by decide) (i₁ := inb_S256x64_S256x1_0_12) (i₂ := inb_S12800x128_S256x128_3072_0) (w := (k2_pay24 ((k2_pay23 (hcol h inb_S256x64_S256x1_0_12) (rws v inb_S12800x128_S256x128_3072_0))))) rfl rfl rfl rfl) $$ H9
  iintro H9
  iapply (wp_ld (F := F) c h) $$ H2
  iintro H2
  iapply (wp_ld (F := F) c v) $$ H1
  iintro H1
  iapply (wp_ldAny c _ _) $$ H9
  iintro %v203 H9
  iapply (wp_stHalf (F := F) c v h r 13 (by decide) (i₁ := inb_S256x64_S256x1_0_13) (i₂ := inb_S12800x128_S256x128_3328_0) (w := (k2_pay25 (hcol h inb_S256x64_S256x1_0_13) (rws v inb_S12800x128_S256x128_3328_0))) rfl rfl rfl rfl) $$ H9
  iintro H9
  iapply (wp_ld (F := F) c h) $$ H2
  iintro H2
  iapply (wp_ld (F := F) c v) $$ H1
  iintro H1
  iapply (wp_ldAny c _ _) $$ H9
  iintro %v217 H9
  iapply (wp_stHalf (F := F) c v h r 14 (by decide) (i₁ := inb_S256x64_S256x1_0_14) (i₂ := inb_S12800x128_S256x128_3584_0) (w := (k2_pay26 (hcol h inb_S256x64_S256x1_0_14) (rws v inb_S12800x128_S256x128_3584_0))) rfl rfl rfl rfl) $$ H9
  iintro H9
  iapply (wp_ld (F := F) c h) $$ H2
  iintro H2
  iapply (wp_ld (F := F) c v) $$ H1
  iintro H1
  iapply (wp_done (F := F) (α := (Σ' (v223 : IVec S256x1 1), FVec F S256x128 .f32)) (Q := Q) c ⟨k2_pay27 (hcol h inb_S256x64_S256x1_0_15), k2_pay28 (rws v inb_S12800x128_S256x128_3840_0)⟩ rfl)
  iapply Hk
  isplitl [H1]; · iexact H1
  isplitl [H2]; · iexact H2
  iexact H9

/-- Part 7 of the body takes the scratch from 17 filled blocks to 20. -/
theorem part7 {Q : (Σ' (v263 : IVec S256x1 32), BitVec 32) → sProp (MT nD τ sig (HIx 1) (Elt F) ℕ UU ℕ)} :
    iprop(owns (c : Thread nD τ) a1 fullShare v ∗ owns (c : Thread nD τ) a2 fullShare h ∗ Acc c a9 (upTo 17) (cat v h r)
        ∗ (iprop(owns (c : Thread nD τ) a1 fullShare v ∗ owns (c : Thread nD τ) a2 fullShare h ∗ Acc c a9 (upTo 20) (cat v h r)) -∗ Q ⟨k2_pay32 (hcol h inb_S256x64_S256x1_0_18), 1#32⟩))
      ⊢ wp frame (wpE (defs₀ (F := F)) 𝒱₀ (c : Thread nD τ) none) Set.univ (k2_part7 i a1 ha1 a2 ha2 a3 ha3 a4 ha4 a5 ha5 a6 ha6 a7 ha7 a8 ha8 a9 ha9 (k2_pay27 (hcol h inb_S256x64_S256x1_0_15)) (k2_pay28 (rws v inb_S12800x128_S256x128_3840_0))) Q := by
  rw [k2_part7_eq_skeleton (F := F)]
  unfold k2_part7_skel
  iintro ⟨H1, H2, H9, Hk⟩
  iapply (wp_ldAny c _ _) $$ H9
  iintro %v231 H9
  iapply (wp_stHalf (F := F) c v h r 15 (by decide) (i₁ := inb_S256x64_S256x1_0_15) (i₂ := inb_S12800x128_S256x128_3840_0) (w := (k2_pay29 (k2_pay27 (hcol h inb_S256x64_S256x1_0_15)) (k2_pay28 (rws v inb_S12800x128_S256x128_3840_0)))) rfl rfl rfl rfl) $$ H9
  iintro H9
  iapply (wp_ld (F := F) c h) $$ H2
  iintro H2
  iapply (wp_ld (F := F) c v) $$ H1
  iintro H1
  iapply (wp_ldAny c _ _) $$ H9
  iintro %v245 H9
  iapply (wp_stHalf (F := F) c v h r 16 (by decide) (i₁ := inb_S256x64_S256x1_0_16) (i₂ := inb_S12800x128_S256x128_4096_0) (w := (k2_pay30 (hcol h inb_S256x64_S256x1_0_16) (rws v inb_S12800x128_S256x128_4096_0))) rfl rfl rfl rfl) $$ H9
  iintro H9
  iapply (wp_ld (F := F) c h) $$ H2
  iintro H2
  iapply (wp_ld (F := F) c v) $$ H1
  iintro H1
  iapply (wp_ldAny c _ _) $$ H9
  iintro %v259 H9
  iapply (wp_stHalf (F := F) c v h r 17 (by decide) (i₁ := inb_S256x64_S256x1_0_17) (i₂ := inb_S12800x128_S256x128_4352_0) (w := (k2_pay31 (hcol h inb_S256x64_S256x1_0_17) (rws v inb_S12800x128_S256x128_4352_0))) rfl rfl rfl rfl) $$ H9
  iintro H9
  iapply (wp_ld (F := F) c h) $$ H2
  iintro H2
  iapply (wp_done (F := F) (α := (Σ' (v263 : IVec S256x1 32), BitVec 32)) (Q := Q) c ⟨k2_pay32 (hcol h inb_S256x64_S256x1_0_18), 1#32⟩ rfl)
  iapply Hk
  isplitl [H1]; · iexact H1
  isplitl [H2]; · iexact H2
  iexact H9

/-- Part 8 of the body takes the scratch from 20 filled blocks to 22. -/
theorem part8 {Q : (FVec F S256x64 .f32) → sProp (MT nD τ sig (HIx 1) (Elt F) ℕ UU ℕ)} :
    iprop(owns (c : Thread nD τ) a1 fullShare v ∗ owns (c : Thread nD τ) a2 fullShare h ∗ Acc c a9 (upTo 20) (cat v h r)
        ∗ (iprop(owns (c : Thread nD τ) a1 fullShare v ∗ owns (c : Thread nD τ) a2 fullShare h ∗ Acc c a9 (upTo 22) (cat v h r)) -∗ Q ((k2_pay35 (hcol h inb_S256x64_S256x1_0_20) (rws v inb_S12800x128_S256x128_5120_0)))))
      ⊢ wp frame (wpE (defs₀ (F := F)) 𝒱₀ (c : Thread nD τ) none) Set.univ (k2_part8 i a1 ha1 a2 ha2 a3 ha3 a4 ha4 a5 ha5 a6 ha6 a7 ha7 a8 ha8 a9 ha9 (k2_pay32 (hcol h inb_S256x64_S256x1_0_18)) 1#32) Q := by
  rw [k2_part8_eq_skeleton (F := F)]
  unfold k2_part8_skel
  iintro ⟨H1, H2, H9, Hk⟩
  iapply (wp_ld (F := F) c v) $$ H1
  iintro H1
  iapply (wp_ldAny c _ _) $$ H9
  iintro %v273 H9
  iapply (wp_stHalf (F := F) c v h r 18 (by decide) (i₁ := inb_S256x64_S256x1_0_18) (i₂ := inb_S12800x128_S256x128_4608_0) (w := (k2_pay33 (k2_pay32 (hcol h inb_S256x64_S256x1_0_18)) 1#32 (rws v inb_S12800x128_S256x128_4608_0))) rfl rfl rfl rfl) $$ H9
  iintro H9
  iapply (wp_ld (F := F) c h) $$ H2
  iintro H2
  iapply (wp_ld (F := F) c v) $$ H1
  iintro H1
  iapply (wp_ldAny c _ _) $$ H9
  iintro %v287 H9
  iapply (wp_stHalf (F := F) c v h r 19 (by decide) (i₁ := inb_S256x64_S256x1_0_19) (i₂ := inb_S12800x128_S256x128_4864_0) (w := (k2_pay34 (hcol h inb_S256x64_S256x1_0_19) (rws v inb_S12800x128_S256x128_4864_0))) rfl rfl rfl rfl) $$ H9
  iintro H9
  iapply (wp_ld (F := F) c h) $$ H2
  iintro H2
  iapply (wp_ld (F := F) c v) $$ H1
  iintro H1
  iapply (wp_ldAny c _ _) $$ H9
  iintro %v301 H9
  iapply (wp_done (F := F) (α := (FVec F S256x64 .f32)) (Q := Q) c ((k2_pay35 (hcol h inb_S256x64_S256x1_0_20) (rws v inb_S12800x128_S256x128_5120_0))) rfl)
  iapply Hk
  isplitl [H1]; · iexact H1
  isplitl [H2]; · iexact H2
  iexact H9

/-- Part 9 of the body takes the scratch from 22 filled blocks to 25. -/
theorem part9 {Q : (Σ' (v338 : FVec F S256x64 .f32) (v339 : FVec F S256x64 .f32), IVec S256x64 1) → sProp (MT nD τ sig (HIx 1) (Elt F) ℕ UU ℕ)} :
    iprop(owns (c : Thread nD τ) a1 fullShare v ∗ owns (c : Thread nD τ) a2 fullShare h ∗ Acc c a9 (upTo 22) (cat v h r)
        ∗ (iprop(owns (c : Thread nD τ) a1 fullShare v ∗ owns (c : Thread nD τ) a2 fullShare h ∗ Acc c a9 (upTo 25) (cat v h r)) -∗ Q ⟨k2_pay39 (rws v inb_S12800x128_S256x128_5888_0), k2_pay40 (rws v inb_S12800x128_S256x128_5888_0), k2_pay41 (hcol h inb_S256x64_S256x1_0_23)⟩))
      ⊢ wp frame (wpE (defs₀ (F := F)) 𝒱₀ (c : Thread nD τ) none) Set.univ (k2_part9 i a1 ha1 a2 ha2 a3 ha3 a4 ha4 a5 ha5 a6 ha6 a7 ha7 a8 ha8 a9 ha9 ((k2_pay35 (hcol h inb_S256x64_S256x1_0_20) (rws v inb_S12800x128_S256x128_5120_0)))) Q := by
  rw [k2_part9_eq_skeleton (F := F)]
  unfold k2_part9_skel
  iintro ⟨H1, H2, H9, Hk⟩
  iapply (wp_stHalf (F := F) c v h r 20 (by decide) (i₁ := inb_S256x64_S256x1_0_20) (i₂ := inb_S12800x128_S256x128_5120_0) (w := ((k2_pay35 (hcol h inb_S256x64_S256x1_0_20) (rws v inb_S12800x128_S256x128_5120_0)))) rfl rfl rfl rfl) $$ H9
  iintro H9
  iapply (wp_ld (F := F) c h) $$ H2
  iintro H2
  iapply (wp_ld (F := F) c v) $$ H1
  iintro H1
  iapply (wp_ldAny c _ _) $$ H9
  iintro %v315 H9
  iapply (wp_stHalf (F := F) c v h r 21 (by decide) (i₁ := inb_S256x64_S256x1_0_21) (i₂ := inb_S12800x128_S256x128_5376_0) (w := (k2_pay36 (hcol h inb_S256x64_S256x1_0_21) (rws v inb_S12800x128_S256x128_5376_0))) rfl rfl rfl rfl) $$ H9
  iintro H9
  iapply (wp_ld (F := F) c h) $$ H2
  iintro H2
  iapply (wp_ld (F := F) c v) $$ H1
  iintro H1
  iapply (wp_ldAny c _ _) $$ H9
  iintro %v329 H9
  iapply (wp_stHalf (F := F) c v h r 22 (by decide) (i₁ := inb_S256x64_S256x1_0_22) (i₂ := inb_S12800x128_S256x128_5632_0) (w := (k2_pay37 (hcol h inb_S256x64_S256x1_0_22) (rws v inb_S12800x128_S256x128_5632_0))) rfl rfl rfl rfl) $$ H9
  iintro H9
  iapply (wp_ld (F := F) c h) $$ H2
  iintro H2
  iapply (wp_ld (F := F) c v) $$ H1
  iintro H1
  iapply (wp_done (F := F) (α := (Σ' (v338 : FVec F S256x64 .f32) (v339 : FVec F S256x64 .f32), IVec S256x64 1)) (Q := Q) c ⟨k2_pay39 (rws v inb_S12800x128_S256x128_5888_0), k2_pay40 (rws v inb_S12800x128_S256x128_5888_0), k2_pay41 (hcol h inb_S256x64_S256x1_0_23)⟩ rfl)
  iapply Hk
  isplitl [H1]; · iexact H1
  isplitl [H2]; · iexact H2
  iexact H9

/-- Part 10 of the body takes the scratch from 25 filled blocks to 28. -/
theorem part10 {Q : (IVec S256x1 1) → sProp (MT nD τ sig (HIx 1) (Elt F) ℕ UU ℕ)} :
    iprop(owns (c : Thread nD τ) a1 fullShare v ∗ owns (c : Thread nD τ) a2 fullShare h ∗ Acc c a9 (upTo 25) (cat v h r)
        ∗ (iprop(owns (c : Thread nD τ) a1 fullShare v ∗ owns (c : Thread nD τ) a2 fullShare h ∗ Acc c a9 (upTo 28) (cat v h r)) -∗ Q ((k2_pay45 (hcol h inb_S256x64_S256x1_0_26)))))
      ⊢ wp frame (wpE (defs₀ (F := F)) 𝒱₀ (c : Thread nD τ) none) Set.univ (k2_part10 i a1 ha1 a2 ha2 a3 ha3 a4 ha4 a5 ha5 a6 ha6 a7 ha7 a8 ha8 a9 ha9 (k2_pay39 (rws v inb_S12800x128_S256x128_5888_0)) (k2_pay40 (rws v inb_S12800x128_S256x128_5888_0)) (k2_pay41 (hcol h inb_S256x64_S256x1_0_23))) Q := by
  rw [k2_part10_eq_skeleton (F := F)]
  unfold k2_part10_skel
  iintro ⟨H1, H2, H9, Hk⟩
  iapply (wp_ldAny c _ _) $$ H9
  iintro %v343 H9
  iapply (wp_stHalf (F := F) c v h r 23 (by decide) (i₁ := inb_S256x64_S256x1_0_23) (i₂ := inb_S12800x128_S256x128_5888_0) (w := (k2_pay42 (k2_pay39 (rws v inb_S12800x128_S256x128_5888_0)) (k2_pay40 (rws v inb_S12800x128_S256x128_5888_0)) (k2_pay41 (hcol h inb_S256x64_S256x1_0_23)))) rfl rfl rfl rfl) $$ H9
  iintro H9
  iapply (wp_ld (F := F) c h) $$ H2
  iintro H2
  iapply (wp_ld (F := F) c v) $$ H1
  iintro H1
  iapply (wp_ldAny c _ _) $$ H9
  iintro %v357 H9
  iapply (wp_stHalf (F := F) c v h r 24 (by decide) (i₁ := inb_S256x64_S256x1_0_24) (i₂ := inb_S12800x128_S256x128_6144_0) (w := (k2_pay43 (hcol h inb_S256x64_S256x1_0_24) (rws v inb_S12800x128_S256x128_6144_0))) rfl rfl rfl rfl) $$ H9
  iintro H9
  iapply (wp_ld (F := F) c h) $$ H2
  iintro H2
  iapply (wp_ld (F := F) c v) $$ H1
  iintro H1
  iapply (wp_ldAny c _ _) $$ H9
  iintro %v371 H9
  iapply (wp_stHalf (F := F) c v h r 25 (by decide) (i₁ := inb_S256x64_S256x1_0_25) (i₂ := inb_S12800x128_S256x128_6400_0) (w := (k2_pay44 (hcol h inb_S256x64_S256x1_0_25) (rws v inb_S12800x128_S256x128_6400_0))) rfl rfl rfl rfl) $$ H9
  iintro H9
  iapply (wp_ld (F := F) c h) $$ H2
  iintro H2
  iapply (wp_done (F := F) (α := (IVec S256x1 1)) (Q := Q) c ((k2_pay45 (hcol h inb_S256x64_S256x1_0_26))) rfl)
  iapply Hk
  isplitl [H1]; · iexact H1
  isplitl [H2]; · iexact H2
  iexact H9

/-- Part 11 of the body takes the scratch from 28 filled blocks to 31. -/
theorem part11 {Q : (Vec F S256x1 .i32) → sProp (MT nD τ sig (HIx 1) (Elt F) ℕ UU ℕ)} :
    iprop(owns (c : Thread nD τ) a1 fullShare v ∗ owns (c : Thread nD τ) a2 fullShare h ∗ Acc c a9 (upTo 28) (cat v h r)
        ∗ (iprop(owns (c : Thread nD τ) a1 fullShare v ∗ owns (c : Thread nD τ) a2 fullShare h ∗ Acc c a9 (upTo 31) (cat v h r)) -∗ Q ((hcol h inb_S256x64_S256x1_0_29))))
      ⊢ wp frame (wpE (defs₀ (F := F)) 𝒱₀ (c : Thread nD τ) none) Set.univ (k2_part11 i a1 ha1 a2 ha2 a3 ha3 a4 ha4 a5 ha5 a6 ha6 a7 ha7 a8 ha8 a9 ha9 ((k2_pay45 (hcol h inb_S256x64_S256x1_0_26)))) Q := by
  rw [k2_part11_eq_skeleton (F := F)]
  unfold k2_part11_skel
  iintro ⟨H1, H2, H9, Hk⟩
  iapply (wp_ld (F := F) c v) $$ H1
  iintro H1
  iapply (wp_ldAny c _ _) $$ H9
  iintro %v385 H9
  iapply (wp_stHalf (F := F) c v h r 26 (by decide) (i₁ := inb_S256x64_S256x1_0_26) (i₂ := inb_S12800x128_S256x128_6656_0) (w := (k2_pay46 ((k2_pay45 (hcol h inb_S256x64_S256x1_0_26))) (rws v inb_S12800x128_S256x128_6656_0))) rfl rfl rfl rfl) $$ H9
  iintro H9
  iapply (wp_ld (F := F) c h) $$ H2
  iintro H2
  iapply (wp_ld (F := F) c v) $$ H1
  iintro H1
  iapply (wp_ldAny c _ _) $$ H9
  iintro %v399 H9
  iapply (wp_stHalf (F := F) c v h r 27 (by decide) (i₁ := inb_S256x64_S256x1_0_27) (i₂ := inb_S12800x128_S256x128_6912_0) (w := (k2_pay47 (hcol h inb_S256x64_S256x1_0_27) (rws v inb_S12800x128_S256x128_6912_0))) rfl rfl rfl rfl) $$ H9
  iintro H9
  iapply (wp_ld (F := F) c h) $$ H2
  iintro H2
  iapply (wp_ld (F := F) c v) $$ H1
  iintro H1
  iapply (wp_ldAny c _ _) $$ H9
  iintro %v413 H9
  iapply (wp_stHalf (F := F) c v h r 28 (by decide) (i₁ := inb_S256x64_S256x1_0_28) (i₂ := inb_S12800x128_S256x128_7168_0) (w := (k2_pay48 (hcol h inb_S256x64_S256x1_0_28) (rws v inb_S12800x128_S256x128_7168_0))) rfl rfl rfl rfl) $$ H9
  iintro H9
  iapply (wp_ld (F := F) c h) $$ H2
  iintro H2
  iapply (wp_done (F := F) (α := (Vec F S256x1 .i32)) (Q := Q) c ((hcol h inb_S256x64_S256x1_0_29)) rfl)
  iapply Hk
  isplitl [H1]; · iexact H1
  isplitl [H2]; · iexact H2
  iexact H9

/-- Part 12 of the body takes the scratch from 31 filled blocks to 33. -/
theorem part12 {Q : (Σ' (v454 : FVec F S256x64 .f32), Vec F S256x64 .f32) → sProp (MT nD τ sig (HIx 1) (Elt F) ℕ UU ℕ)} :
    iprop(owns (c : Thread nD τ) a1 fullShare v ∗ owns (c : Thread nD τ) a2 fullShare h ∗ Acc c a9 (upTo 31) (cat v h r)
        ∗ (∀ v455, iprop(owns (c : Thread nD τ) a1 fullShare v ∗ owns (c : Thread nD τ) a2 fullShare h ∗ Acc c a9 (upTo 33) (cat v h r)) -∗ Q ⟨k2_pay51 (hcol h inb_S256x64_S256x1_0_31) (rws v inb_S12800x128_S256x128_7936_0), v455⟩))
      ⊢ wp frame (wpE (defs₀ (F := F)) 𝒱₀ (c : Thread nD τ) none) Set.univ (k2_part12 i a1 ha1 a2 ha2 a3 ha3 a4 ha4 a5 ha5 a6 ha6 a7 ha7 a8 ha8 a9 ha9 (hcol h inb_S256x64_S256x1_0_29)) Q := by
  rw [k2_part12_eq_skeleton (F := F)]
  unfold k2_part12_skel
  iintro ⟨H1, H2, H9, Hk⟩
  iapply (wp_ld (F := F) c v) $$ H1
  iintro H1
  iapply (wp_ldAny c _ _) $$ H9
  iintro %v427 H9
  iapply (wp_stHalf (F := F) c v h r 29 (by decide) (i₁ := inb_S256x64_S256x1_0_29) (i₂ := inb_S12800x128_S256x128_7424_0) (w := (k2_pay49 (hcol h inb_S256x64_S256x1_0_29) (rws v inb_S12800x128_S256x128_7424_0))) rfl rfl rfl rfl) $$ H9
  iintro H9
  iapply (wp_ld (F := F) c h) $$ H2
  iintro H2
  iapply (wp_ld (F := F) c v) $$ H1
  iintro H1
  iapply (wp_ldAny c _ _) $$ H9
  iintro %v441 H9
  iapply (wp_stHalf (F := F) c v h r 30 (by decide) (i₁ := inb_S256x64_S256x1_0_30) (i₂ := inb_S12800x128_S256x128_7680_0) (w := (k2_pay50 (hcol h inb_S256x64_S256x1_0_30) (rws v inb_S12800x128_S256x128_7680_0))) rfl rfl rfl rfl) $$ H9
  iintro H9
  iapply (wp_ld (F := F) c h) $$ H2
  iintro H2
  iapply (wp_ld (F := F) c v) $$ H1
  iintro H1
  iapply (wp_ldAny c _ _) $$ H9
  iintro %v455 H9
  iapply (wp_done (F := F) (α := (Σ' (v454 : FVec F S256x64 .f32), Vec F S256x64 .f32)) (Q := Q) c ⟨k2_pay51 (hcol h inb_S256x64_S256x1_0_31) (rws v inb_S12800x128_S256x128_7936_0), v455⟩ rfl)
  iapply Hk
  isplitl [H1]; · iexact H1
  isplitl [H2]; · iexact H2
  iexact H9

/-- Part 13 of the body takes the scratch from 33 filled blocks to 36. -/
theorem part13 (v455 : S256x64.Idx → Elt F .f32) {Q : (Σ' (v489 : IVec S256x1 1) (v492 : FVec F S256x64 .f32), FVec F S256x64 .f32) → sProp (MT nD τ sig (HIx 1) (Elt F) ℕ UU ℕ)} :
    iprop(owns (c : Thread nD τ) a1 fullShare v ∗ owns (c : Thread nD τ) a2 fullShare h ∗ Acc c a9 (upTo 33) (cat v h r)
        ∗ (iprop(owns (c : Thread nD τ) a1 fullShare v ∗ owns (c : Thread nD τ) a2 fullShare h ∗ Acc c a9 (upTo 36) (cat v h r)) -∗ Q ⟨k2_pay55 (hcol h inb_S256x64_S256x1_0_34), k2_pay57 (rws v inb_S12800x128_S256x128_8704_0), k2_pay58 (rws v inb_S12800x128_S256x128_8704_0)⟩))
      ⊢ wp frame (wpE (defs₀ (F := F)) 𝒱₀ (c : Thread nD τ) none) Set.univ (k2_part13 i a1 ha1 a2 ha2 a3 ha3 a4 ha4 a5 ha5 a6 ha6 a7 ha7 a8 ha8 a9 ha9 (k2_pay51 (hcol h inb_S256x64_S256x1_0_31) (rws v inb_S12800x128_S256x128_7936_0)) v455) Q := by
  rw [k2_part13_eq_skeleton (F := F)]
  unfold k2_part13_skel
  iintro ⟨H1, H2, H9, Hk⟩
  iapply (wp_stHalf (F := F) c v h r 31 (by decide) (i₁ := inb_S256x64_S256x1_0_31) (i₂ := inb_S12800x128_S256x128_7936_0) (w := (k2_pay52 (k2_pay51 (hcol h inb_S256x64_S256x1_0_31) (rws v inb_S12800x128_S256x128_7936_0)))) rfl rfl rfl rfl) $$ H9
  iintro H9
  iapply (wp_ld (F := F) c h) $$ H2
  iintro H2
  iapply (wp_ld (F := F) c v) $$ H1
  iintro H1
  iapply (wp_ldAny c _ _) $$ H9
  iintro %v469 H9
  iapply (wp_stHalf (F := F) c v h r 32 (by decide) (i₁ := inb_S256x64_S256x1_0_32) (i₂ := inb_S12800x128_S256x128_8192_0) (w := (k2_pay53 (hcol h inb_S256x64_S256x1_0_32) (rws v inb_S12800x128_S256x128_8192_0))) rfl rfl rfl rfl) $$ H9
  iintro H9
  iapply (wp_ld (F := F) c h) $$ H2
  iintro H2
  iapply (wp_ld (F := F) c v) $$ H1
  iintro H1
  iapply (wp_ldAny c _ _) $$ H9
  iintro %v483 H9
  iapply (wp_stHalf (F := F) c v h r 33 (by decide) (i₁ := inb_S256x64_S256x1_0_33) (i₂ := inb_S12800x128_S256x128_8448_0) (w := (k2_pay54 (hcol h inb_S256x64_S256x1_0_33) (rws v inb_S12800x128_S256x128_8448_0))) rfl rfl rfl rfl) $$ H9
  iintro H9
  iapply (wp_ld (F := F) c h) $$ H2
  iintro H2
  iapply (wp_ld (F := F) c v) $$ H1
  iintro H1
  iapply (wp_done (F := F) (α := (Σ' (v489 : IVec S256x1 1) (v492 : FVec F S256x64 .f32), FVec F S256x64 .f32)) (Q := Q) c ⟨k2_pay55 (hcol h inb_S256x64_S256x1_0_34), k2_pay57 (rws v inb_S12800x128_S256x128_8704_0), k2_pay58 (rws v inb_S12800x128_S256x128_8704_0)⟩ rfl)
  iapply Hk
  isplitl [H1]; · iexact H1
  isplitl [H2]; · iexact H2
  iexact H9

/-- Part 14 of the body takes the scratch from 36 filled blocks to 39. -/
theorem part14 {Q : (IVec S256x1 1) → sProp (MT nD τ sig (HIx 1) (Elt F) ℕ UU ℕ)} :
    iprop(owns (c : Thread nD τ) a1 fullShare v ∗ owns (c : Thread nD τ) a2 fullShare h ∗ Acc c a9 (upTo 36) (cat v h r)
        ∗ (iprop(owns (c : Thread nD τ) a1 fullShare v ∗ owns (c : Thread nD τ) a2 fullShare h ∗ Acc c a9 (upTo 39) (cat v h r)) -∗ Q ((k2_pay62 (hcol h inb_S256x64_S256x1_0_37)))))
      ⊢ wp frame (wpE (defs₀ (F := F)) 𝒱₀ (c : Thread nD τ) none) Set.univ (k2_part14 i a1 ha1 a2 ha2 a3 ha3 a4 ha4 a5 ha5 a6 ha6 a7 ha7 a8 ha8 a9 ha9 (k2_pay55 (hcol h inb_S256x64_S256x1_0_34)) (k2_pay57 (rws v inb_S12800x128_S256x128_8704_0)) (k2_pay58 (rws v inb_S12800x128_S256x128_8704_0))) Q := by
  rw [k2_part14_eq_skeleton (F := F)]
  unfold k2_part14_skel
  iintro ⟨H1, H2, H9, Hk⟩
  iapply (wp_ldAny c _ _) $$ H9
  iintro %v497 H9
  iapply (wp_stHalf (F := F) c v h r 34 (by decide) (i₁ := inb_S256x64_S256x1_0_34) (i₂ := inb_S12800x128_S256x128_8704_0) (w := (k2_pay59 (k2_pay55 (hcol h inb_S256x64_S256x1_0_34)) (k2_pay57 (rws v inb_S12800x128_S256x128_8704_0)) (k2_pay58 (rws v inb_S12800x128_S256x128_8704_0)))) rfl rfl rfl rfl) $$ H9
  iintro H9
  iapply (wp_ld (F := F) c h) $$ H2
  iintro H2
  iapply (wp_ld (F := F) c v) $$ H1
  iintro H1
  iapply (wp_ldAny c _ _) $$ H9
  iintro %v511 H9
  iapply (wp_stHalf (F := F) c v h r 35 (by decide) (i₁ := inb_S256x64_S256x1_0_35) (i₂ := inb_S12800x128_S256x128_8960_0) (w := (k2_pay60 (hcol h inb_S256x64_S256x1_0_35) (rws v inb_S12800x128_S256x128_8960_0))) rfl rfl rfl rfl) $$ H9
  iintro H9
  iapply (wp_ld (F := F) c h) $$ H2
  iintro H2
  iapply (wp_ld (F := F) c v) $$ H1
  iintro H1
  iapply (wp_ldAny c _ _) $$ H9
  iintro %v525 H9
  iapply (wp_stHalf (F := F) c v h r 36 (by decide) (i₁ := inb_S256x64_S256x1_0_36) (i₂ := inb_S12800x128_S256x128_9216_0) (w := (k2_pay61 (hcol h inb_S256x64_S256x1_0_36) (rws v inb_S12800x128_S256x128_9216_0))) rfl rfl rfl rfl) $$ H9
  iintro H9
  iapply (wp_ld (F := F) c h) $$ H2
  iintro H2
  iapply (wp_done (F := F) (α := (IVec S256x1 1)) (Q := Q) c ((k2_pay62 (hcol h inb_S256x64_S256x1_0_37))) rfl)
  iapply Hk
  isplitl [H1]; · iexact H1
  isplitl [H2]; · iexact H2
  iexact H9

/-- Part 15 of the body takes the scratch from 39 filled blocks to 42. -/
theorem part15 {Q : (PUnit) → sProp (MT nD τ sig (HIx 1) (Elt F) ℕ UU ℕ)} :
    iprop(owns (c : Thread nD τ) a1 fullShare v ∗ owns (c : Thread nD τ) a2 fullShare h ∗ Acc c a9 (upTo 39) (cat v h r)
        ∗ (iprop(owns (c : Thread nD τ) a1 fullShare v ∗ owns (c : Thread nD τ) a2 fullShare h ∗ Acc c a9 (upTo 42) (cat v h r)) -∗ Q PUnit.unit))
      ⊢ wp frame (wpE (defs₀ (F := F)) 𝒱₀ (c : Thread nD τ) none) Set.univ (k2_part15 i a1 ha1 a2 ha2 a3 ha3 a4 ha4 a5 ha5 a6 ha6 a7 ha7 a8 ha8 a9 ha9 ((k2_pay62 (hcol h inb_S256x64_S256x1_0_37)))) Q := by
  rw [k2_part15_eq_skeleton (F := F)]
  unfold k2_part15_skel
  iintro ⟨H1, H2, H9, Hk⟩
  iapply (wp_ld (F := F) c v) $$ H1
  iintro H1
  iapply (wp_ldAny c _ _) $$ H9
  iintro %v539 H9
  iapply (wp_stHalf (F := F) c v h r 37 (by decide) (i₁ := inb_S256x64_S256x1_0_37) (i₂ := inb_S12800x128_S256x128_9472_0) (w := (k2_pay63 ((k2_pay62 (hcol h inb_S256x64_S256x1_0_37))) (rws v inb_S12800x128_S256x128_9472_0))) rfl rfl rfl rfl) $$ H9
  iintro H9
  iapply (wp_ld (F := F) c h) $$ H2
  iintro H2
  iapply (wp_ld (F := F) c v) $$ H1
  iintro H1
  iapply (wp_ldAny c _ _) $$ H9
  iintro %v553 H9
  iapply (wp_stHalf (F := F) c v h r 38 (by decide) (i₁ := inb_S256x64_S256x1_0_38) (i₂ := inb_S12800x128_S256x128_9728_0) (w := (k2_pay64 (hcol h inb_S256x64_S256x1_0_38) (rws v inb_S12800x128_S256x128_9728_0))) rfl rfl rfl rfl) $$ H9
  iintro H9
  iapply (wp_ld (F := F) c h) $$ H2
  iintro H2
  iapply (wp_ld (F := F) c v) $$ H1
  iintro H1
  iapply (wp_ldAny c _ _) $$ H9
  iintro %v567 H9
  iapply (wp_stHalf (F := F) c v h r 39 (by decide) (i₁ := inb_S256x64_S256x1_0_39) (i₂ := inb_S12800x128_S256x128_9984_0) (w := (k2_pay65 (hcol h inb_S256x64_S256x1_0_39) (rws v inb_S12800x128_S256x128_9984_0))) rfl rfl rfl rfl) $$ H9
  iintro H9
  iapply (wp_done (F := F) (α := (PUnit)) (Q := Q) c PUnit.unit rfl)
  iapply Hk
  isplitl [H1]; · iexact H1
  isplitl [H2]; · iexact H2
  iexact H9

/-- Part 16 of the body takes the scratch from 42 filled blocks to 44. -/
theorem part16 {Q : (FVec F S256x64 .f32) → sProp (MT nD τ sig (HIx 1) (Elt F) ℕ UU ℕ)} :
    iprop(owns (c : Thread nD τ) a1 fullShare v ∗ owns (c : Thread nD τ) a2 fullShare h ∗ Acc c a9 (upTo 42) (cat v h r)
        ∗ (iprop(owns (c : Thread nD τ) a1 fullShare v ∗ owns (c : Thread nD τ) a2 fullShare h ∗ Acc c a9 (upTo 44) (cat v h r)) -∗ Q ((k2_pay68 (hcol h inb_S256x64_S256x1_0_42) (rws v inb_S12800x128_S256x128_10752_0)))))
      ⊢ wp frame (wpE (defs₀ (F := F)) 𝒱₀ (c : Thread nD τ) none) Set.univ (k2_part16 i a1 ha1 a2 ha2 a3 ha3 a4 ha4 a5 ha5 a6 ha6 a7 ha7 a8 ha8 a9 ha9 ) Q := by
  rw [k2_part16_eq_skeleton (F := F)]
  unfold k2_part16_skel
  iintro ⟨H1, H2, H9, Hk⟩
  iapply (wp_ld (F := F) c h) $$ H2
  iintro H2
  iapply (wp_ld (F := F) c v) $$ H1
  iintro H1
  iapply (wp_ldAny c _ _) $$ H9
  iintro %v581 H9
  iapply (wp_stHalf (F := F) c v h r 40 (by decide) (i₁ := inb_S256x64_S256x1_0_40) (i₂ := inb_S12800x128_S256x128_10240_0) (w := (k2_pay66 (hcol h inb_S256x64_S256x1_0_40) (rws v inb_S12800x128_S256x128_10240_0))) rfl rfl rfl rfl) $$ H9
  iintro H9
  iapply (wp_ld (F := F) c h) $$ H2
  iintro H2
  iapply (wp_ld (F := F) c v) $$ H1
  iintro H1
  iapply (wp_ldAny c _ _) $$ H9
  iintro %v595 H9
  iapply (wp_stHalf (F := F) c v h r 41 (by decide) (i₁ := inb_S256x64_S256x1_0_41) (i₂ := inb_S12800x128_S256x128_10496_0) (w := (k2_pay67 (hcol h inb_S256x64_S256x1_0_41) (rws v inb_S12800x128_S256x128_10496_0))) rfl rfl rfl rfl) $$ H9
  iintro H9
  iapply (wp_ld (F := F) c h) $$ H2
  iintro H2
  iapply (wp_ld (F := F) c v) $$ H1
  iintro H1
  iapply (wp_done (F := F) (α := (FVec F S256x64 .f32)) (Q := Q) c ((k2_pay68 (hcol h inb_S256x64_S256x1_0_42) (rws v inb_S12800x128_S256x128_10752_0))) rfl)
  iapply Hk
  isplitl [H1]; · iexact H1
  isplitl [H2]; · iexact H2
  iexact H9

/-- Part 17 of the body takes the scratch from 44 filled blocks to 47. -/
theorem part17 {Q : (Σ' (v643 : IVec S256x1 1), FVec F S256x128 .f32) → sProp (MT nD τ sig (HIx 1) (Elt F) ℕ UU ℕ)} :
    iprop(owns (c : Thread nD τ) a1 fullShare v ∗ owns (c : Thread nD τ) a2 fullShare h ∗ Acc c a9 (upTo 44) (cat v h r)
        ∗ (iprop(owns (c : Thread nD τ) a1 fullShare v ∗ owns (c : Thread nD τ) a2 fullShare h ∗ Acc c a9 (upTo 47) (cat v h r)) -∗ Q ⟨k2_pay72 (hcol h inb_S256x64_S256x1_0_45), k2_pay73 (rws v inb_S12800x128_S256x128_11520_0)⟩))
      ⊢ wp frame (wpE (defs₀ (F := F)) 𝒱₀ (c : Thread nD τ) none) Set.univ (k2_part17 i a1 ha1 a2 ha2 a3 ha3 a4 ha4 a5 ha5 a6 ha6 a7 ha7 a8 ha8 a9 ha9 ((k2_pay68 (hcol h inb_S256x64_S256x1_0_42) (rws v inb_S12800x128_S256x128_10752_0)))) Q := by
  rw [k2_part17_eq_skeleton (F := F)]
  unfold k2_part17_skel
  iintro ⟨H1, H2, H9, Hk⟩
  iapply (wp_ldAny c _ _) $$ H9
  iintro %v609 H9
  iapply (wp_stHalf (F := F) c v h r 42 (by decide) (i₁ := inb_S256x64_S256x1_0_42) (i₂ := inb_S12800x128_S256x128_10752_0) (w := (k2_pay69 ((k2_pay68 (hcol h inb_S256x64_S256x1_0_42) (rws v inb_S12800x128_S256x128_10752_0))))) rfl rfl rfl rfl) $$ H9
  iintro H9
  iapply (wp_ld (F := F) c h) $$ H2
  iintro H2
  iapply (wp_ld (F := F) c v) $$ H1
  iintro H1
  iapply (wp_ldAny c _ _) $$ H9
  iintro %v623 H9
  iapply (wp_stHalf (F := F) c v h r 43 (by decide) (i₁ := inb_S256x64_S256x1_0_43) (i₂ := inb_S12800x128_S256x128_11008_0) (w := (k2_pay70 (hcol h inb_S256x64_S256x1_0_43) (rws v inb_S12800x128_S256x128_11008_0))) rfl rfl rfl rfl) $$ H9
  iintro H9
  iapply (wp_ld (F := F) c h) $$ H2
  iintro H2
  iapply (wp_ld (F := F) c v) $$ H1
  iintro H1
  iapply (wp_ldAny c _ _) $$ H9
  iintro %v637 H9
  iapply (wp_stHalf (F := F) c v h r 44 (by decide) (i₁ := inb_S256x64_S256x1_0_44) (i₂ := inb_S12800x128_S256x128_11264_0) (w := (k2_pay71 (hcol h inb_S256x64_S256x1_0_44) (rws v inb_S12800x128_S256x128_11264_0))) rfl rfl rfl rfl) $$ H9
  iintro H9
  iapply (wp_ld (F := F) c h) $$ H2
  iintro H2
  iapply (wp_ld (F := F) c v) $$ H1
  iintro H1
  iapply (wp_done (F := F) (α := (Σ' (v643 : IVec S256x1 1), FVec F S256x128 .f32)) (Q := Q) c ⟨k2_pay72 (hcol h inb_S256x64_S256x1_0_45), k2_pay73 (rws v inb_S12800x128_S256x128_11520_0)⟩ rfl)
  iapply Hk
  isplitl [H1]; · iexact H1
  isplitl [H2]; · iexact H2
  iexact H9

/-- Part 18 of the body takes the scratch from 47 filled blocks to 50. -/
theorem part18 {Q : (Σ' (v683 : IVec S256x1 32), BitVec 32) → sProp (MT nD τ sig (HIx 1) (Elt F) ℕ UU ℕ)} :
    iprop(owns (c : Thread nD τ) a1 fullShare v ∗ owns (c : Thread nD τ) a2 fullShare h ∗ Acc c a9 (upTo 47) (cat v h r)
        ∗ (iprop(owns (c : Thread nD τ) a1 fullShare v ∗ owns (c : Thread nD τ) a2 fullShare h ∗ Acc c a9 (upTo 50) (cat v h r)) -∗ Q ⟨k2_pay77 (hcol h inb_S256x64_S256x1_0_48), 1#32⟩))
      ⊢ wp frame (wpE (defs₀ (F := F)) 𝒱₀ (c : Thread nD τ) none) Set.univ (k2_part18 i a1 ha1 a2 ha2 a3 ha3 a4 ha4 a5 ha5 a6 ha6 a7 ha7 a8 ha8 a9 ha9 (k2_pay72 (hcol h inb_S256x64_S256x1_0_45)) (k2_pay73 (rws v inb_S12800x128_S256x128_11520_0))) Q := by
  rw [k2_part18_eq_skeleton (F := F)]
  unfold k2_part18_skel
  iintro ⟨H1, H2, H9, Hk⟩
  iapply (wp_ldAny c _ _) $$ H9
  iintro %v651 H9
  iapply (wp_stHalf (F := F) c v h r 45 (by decide) (i₁ := inb_S256x64_S256x1_0_45) (i₂ := inb_S12800x128_S256x128_11520_0) (w := (k2_pay74 (k2_pay72 (hcol h inb_S256x64_S256x1_0_45)) (k2_pay73 (rws v inb_S12800x128_S256x128_11520_0)))) rfl rfl rfl rfl) $$ H9
  iintro H9
  iapply (wp_ld (F := F) c h) $$ H2
  iintro H2
  iapply (wp_ld (F := F) c v) $$ H1
  iintro H1
  iapply (wp_ldAny c _ _) $$ H9
  iintro %v665 H9
  iapply (wp_stHalf (F := F) c v h r 46 (by decide) (i₁ := inb_S256x64_S256x1_0_46) (i₂ := inb_S12800x128_S256x128_11776_0) (w := (k2_pay75 (hcol h inb_S256x64_S256x1_0_46) (rws v inb_S12800x128_S256x128_11776_0))) rfl rfl rfl rfl) $$ H9
  iintro H9
  iapply (wp_ld (F := F) c h) $$ H2
  iintro H2
  iapply (wp_ld (F := F) c v) $$ H1
  iintro H1
  iapply (wp_ldAny c _ _) $$ H9
  iintro %v679 H9
  iapply (wp_stHalf (F := F) c v h r 47 (by decide) (i₁ := inb_S256x64_S256x1_0_47) (i₂ := inb_S12800x128_S256x128_12032_0) (w := (k2_pay76 (hcol h inb_S256x64_S256x1_0_47) (rws v inb_S12800x128_S256x128_12032_0))) rfl rfl rfl rfl) $$ H9
  iintro H9
  iapply (wp_ld (F := F) c h) $$ H2
  iintro H2
  iapply (wp_done (F := F) (α := (Σ' (v683 : IVec S256x1 32), BitVec 32)) (Q := Q) c ⟨k2_pay77 (hcol h inb_S256x64_S256x1_0_48), 1#32⟩ rfl)
  iapply Hk
  isplitl [H1]; · iexact H1
  isplitl [H2]; · iexact H2
  iexact H9

/-- Part 19 of the body fills the last four blocks and reads the scratch, all filled, for the first product. -/
theorem part19 {Q : (FVec F S256x3328 .bf16) → sProp (MT nD τ sig (HIx 1) (Elt F) ℕ UU ℕ)} :
    iprop(owns (c : Thread nD τ) a1 fullShare v ∗ owns (c : Thread nD τ) a2 fullShare h ∗ Acc c a9 (upTo 50) (cat v h r)
        ∗ (iprop(owns (c : Thread nD τ) a1 fullShare v ∗ owns (c : Thread nD τ) a2 fullShare h ∗ owns (c : Thread nD τ) a9 fullShare (cat v h r)) -∗ Q ((k2_pay82 (cat v h r)))))
      ⊢ wp frame (wpE (defs₀ (F := F)) 𝒱₀ (c : Thread nD τ) none) Set.univ (k2_part19 i a1 ha1 a2 ha2 a3 ha3 a4 ha4 a5 ha5 a6 ha6 a7 ha7 a8 ha8 a9 ha9 (k2_pay2 r) (k2_pay77 (hcol h inb_S256x64_S256x1_0_48)) 1#32) Q := by
  rw [k2_part19_eq_skeleton (F := F)]
  unfold k2_part19_skel
  iintro ⟨H1, H2, H9, Hk⟩
  iapply (wp_ld (F := F) c v) $$ H1
  iintro H1
  iapply (wp_ldAny c _ _) $$ H9
  iintro %v693 H9
  iapply (wp_stHalf (F := F) c v h r 48 (by decide) (i₁ := inb_S256x64_S256x1_0_48) (i₂ := inb_S12800x128_S256x128_12288_0) (w := (k2_pay78 (k2_pay77 (hcol h inb_S256x64_S256x1_0_48)) 1#32 (rws v inb_S12800x128_S256x128_12288_0))) rfl rfl rfl rfl) $$ H9
  iintro H9
  iapply (wp_ld (F := F) c h) $$ H2
  iintro H2
  iapply (wp_ld (F := F) c v) $$ H1
  iintro H1
  iapply (wp_ldAny c _ _) $$ H9
  iintro %v707 H9
  iapply (wp_stHalf (F := F) c v h r 49 (by decide) (i₁ := inb_S256x64_S256x1_0_49) (i₂ := inb_S12800x128_S256x128_12544_0) (w := (k2_pay79 (hcol h inb_S256x64_S256x1_0_49) (rws v inb_S12800x128_S256x128_12544_0))) rfl rfl rfl rfl) $$ H9
  iintro H9
  iapply (wp_ldAny c _ _) $$ H9
  iintro %v710 H9
  iapply (wp_stPad (F := F) c v h r 52 (by decide) (w := (k2_pay80 (k2_pay2 r))) rfl rfl) $$ H9
  iintro H9
  iapply (wp_ldAny c _ _) $$ H9
  iintro %v713 H9
  iapply (wp_stPad (F := F) c v h r 53 (by decide) (w := (k2_pay81 (k2_pay2 r))) rfl rfl) $$ H9
  iintro H9
  ihave H9 := (owns_of_acc (F := F) c a9 (cat v h r) (upTo 54) (fun y => (y 1).isLt)) $$ H9
  iapply (wp_ldWhole (F := F) c (cat v h r) (by intro a; fin_cases a <;> rfl)) $$ H9
  iintro H9
  iapply (wp_done (F := F) (α := (FVec F S256x3328 .bf16)) (Q := Q) c ((k2_pay82 (cat v h r))) rfl)
  iapply Hk
  isplitl [H1]; · iexact H1
  isplitl [H2]; · iexact H2
  iexact H9

end Cert.Proof.Gather
-- ==== Proof.Mlp.lean ====
/-
  The MLP kernel: its body's whole run, and the pipeline's proof data from any contents of the arrays.
-/
module

public import proofs.«01_k».proof.Proof.Parts

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- Running one program and then another. -/
theorem wp_seq (c : Dev nD) {α β : Type} {p : Prog (TpuEff nD τ sig (Elt F) Λ₀ .tc) α} {k : α → Prog (TpuEff nD τ sig (Elt F) Λ₀ .tc) β} {Q : β → sProp (MT nD τ sig (HIx 1) (Elt F) ℕ UU ℕ)} :
    wp frame (wpE (defs₀ (F := F)) 𝒱₀ (c : Thread nD τ) none) Set.univ p (fun x => wp frame (wpE (defs₀ (F := F)) 𝒱₀ (c : Thread nD τ) none) Set.univ (k x) Q)
      ⊢ wp frame (wpE (defs₀ (F := F)) 𝒱₀ (c : Thread nD τ) none) Set.univ (p >>= k) Q :=
  Entails.of_eq (wp_bind _ _ _ _ _ _).symm

/-- What the body stores: the filled scratch's window maximum through the two layers. -/
def mlpB (v : S12800x128.Idx → Elt F .f32) (h : S256x64.Idx → Elt F .i32) (r : S1x64.Idx → Elt F .f32) (w1 : S3328x1024.Idx → Elt F .bf16) (b1 : S1x1024.Idx → Elt F .f32)
    (w2 : S1024x1000.Idx → Elt F .bf16) (b2 : S1x1000.Idx → Elt F .f32) : S256x1000.Idx → Elt F .f32 :=
  k2_pay1 (k2_pay82 (cat v h r)) w1 b1 w2 b2

/-- The body's run: from its input blocks and its output's and the scratch's buffers at anything, the output's at the
    value. -/
theorem mlp_body (c : Dev nD) (i : grid2.Coords) (a1 : Memref sig .tc .vmem S12800x128 .f32) (ha1 : a1.IsWhole) (a2 : Memref sig .tc .vmem S256x64 .i32) (ha2 : a2.IsWhole) (a3 : Memref sig .tc .vmem S1x64 .f32) (ha3 : a3.IsWhole) (a4 : Memref sig .tc .vmem S3328x1024 .bf16) (ha4 : a4.IsWhole) (a5 : Memref sig .tc .vmem S1x1024 .f32) (ha5 : a5.IsWhole) (a6 : Memref sig .tc .vmem S1024x1000 .bf16) (ha6 : a6.IsWhole) (a7 : Memref sig .tc .vmem S1x1000 .f32) (ha7 : a7.IsWhole) (a8 : Memref sig .tc .vmem S256x1000 .f32) (ha8 : a8.IsWhole) (a9 : Memref sig .tc .vmem S256x3456 .f32) (ha9 : a9.IsWhole)
    (v : S12800x128.Idx → Elt F .f32) (h : S256x64.Idx → Elt F .i32) (r : S1x64.Idx → Elt F .f32) (w1 : S3328x1024.Idx → Elt F .bf16) (b1 : S1x1024.Idx → Elt F .f32)
    (w2 : S1024x1000.Idx → Elt F .bf16) (b2 : S1x1000.Idx → Elt F .f32) (u : S256x1000.Idx → Elt F .f32) (s : S256x3456.Idx → Elt F .f32)
    (Q : PUnit → sProp (MT nD τ sig (HIx 1) (Elt F) ℕ UU ℕ)) :
    iprop(owns (c : Thread nD τ) a1 fullShare v ∗ owns (c : Thread nD τ) a2 fullShare h ∗ owns (c : Thread nD τ) a3 fullShare r ∗ owns (c : Thread nD τ) a4 fullShare w1
        ∗ owns (c : Thread nD τ) a5 fullShare b1 ∗ owns (c : Thread nD τ) a6 fullShare w2 ∗ owns (c : Thread nD τ) a7 fullShare b2 ∗ owns (c : Thread nD τ) a8 fullShare u
        ∗ owns (c : Thread nD τ) a9 fullShare s
        ∗ (iprop(owns (c : Thread nD τ) a1 fullShare v ∗ owns (c : Thread nD τ) a2 fullShare h ∗ owns (c : Thread nD τ) a3 fullShare r ∗ owns (c : Thread nD τ) a4 fullShare w1
            ∗ owns (c : Thread nD τ) a5 fullShare b1 ∗ owns (c : Thread nD τ) a6 fullShare w2 ∗ owns (c : Thread nD τ) a7 fullShare b2
            ∗ owns (c : Thread nD τ) a8 fullShare (mlpB v h r w1 b1 w2 b2) ∗ owns (c : Thread nD τ) a9 fullShare (cat v h r)) -∗ Q ⟨⟩))
      ⊢ wp frame (wpE (defs₀ (F := F)) 𝒱₀ (c : Thread nD τ) none) Set.univ (cc2__mlp_body i a1 ha1 a2 ha2 a3 ha3 a4 ha4 a5 ha5 a6 ha6 a7 ha7 a8 ha8 a9 ha9) Q := by
  rw [cc2__mlp_body_eq_skeleton (F := F)]
  unfold cc2__mlp_body_skel
  iintro ⟨H1, H2, H3, H4, H5, H6, H7, H8, H9, Hk⟩
  ihave H9 := (acc_of_owns (F := F) c a9 s (cat v h r) (upTo 0) (fun y hy => Nat.not_lt_zero _ hy)) $$ H9
  iapply (wp_seq c)
  iapply (part1 c i a1 ha1 a2 ha2 a3 ha3 a4 ha4 a5 ha5 a6 ha6 a7 ha7 a8 ha8 a9 ha9 v h r)
  isplitl [H1]; · iexact H1
  isplitl [H2]; · iexact H2
  isplitl [H3]; · iexact H3
  isplitl [H9]; · iexact H9
  iintro %v35 ⟨H1, H2, H3, H9⟩
  iapply (wp_seq c)
  iapply (part2 c i a1 ha1 a2 ha2 a3 ha3 a4 ha4 a5 ha5 a6 ha6 a7 ha7 a8 ha8 a9 ha9 v h r v35)
  isplitl [H1]; · iexact H1
  isplitl [H2]; · iexact H2
  isplitl [H9]; · iexact H9
  iintro ⟨H1, H2, H9⟩
  iapply (wp_seq c)
  iapply (part3 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part4 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part5 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part6 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part7 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part8 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part9 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part10 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part11 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part12 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro %v455 ⟨H1, H2, H9⟩
  iapply (wp_seq c)
  iapply (part13 c i a1 ha1 a2 ha2 a3 ha3 a4 ha4 a5 ha5 a6 ha6 a7 ha7 a8 ha8 a9 ha9 v h r v455)
  isplitl [H1]; · iexact H1
  isplitl [H2]; · iexact H2
  isplitl [H9]; · iexact H9
  iintro ⟨H1, H2, H9⟩
  iapply (wp_seq c)
  iapply (part14 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part15 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part16 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part17 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part18 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_seq c)
  iapply (part19 c i a1 ha1 a2 ha2 a3 ha3 a4 ha4 a5 ha5 a6 ha6 a7 ha7 a8 ha8 a9 ha9 v h r)
  isplitl [H1]; · iexact H1
  isplitl [H2]; · iexact H2
  isplitl [H9]; · iexact H9
  iintro ⟨H1, H2, H9⟩
  iapply (wp_ldWhole (F := F) c w1 (by intro a; fin_cases a <;> rfl)) $$ H4
  iintro H4
  iapply (wp_ldWhole (F := F) c b1 (by intro a; fin_cases a <;> rfl)) $$ H5
  iintro H5
  iapply (wp_ldWhole (F := F) c w2 (by intro a; fin_cases a <;> rfl)) $$ H6
  iintro H6
  iapply (wp_ldWhole (F := F) c b2 (by intro a; fin_cases a <;> rfl)) $$ H7
  iintro H7
  ihave H8 := (acc_of_owns (F := F) c a8 u (mlpB v h r w1 b1 w2 b2) (fun _ => False) (fun _ hy => hy)) $$ H8
  iapply (wp_ldAny c _ _) $$ H8
  iintro %_ H8
  iapply (wp_stAcc (F := F) c (fun _ => False) (fun _ => True) (mlpB v h r w1 b1 w2 b2) ?_ ?_) $$ H8
  · intro x
    exact congrArg (mlpB v h r w1 b1 w2 b2) (idx_zero (s := S256x1000) (inb := inb_S256x1000_S256x1000_0_0) (by intro a; fin_cases a <;> rfl) x).symm
  · intro y _
    refine .inr (Rect.mem_set_unit.mpr fun a => ?_)
    match a with
    | 0 => exact ⟨Nat.zero_le _, (y 0).isLt.trans_le (Nat.le_add_left _ _)⟩
    | 1 => exact ⟨Nat.zero_le _, (y 1).isLt.trans_le (Nat.le_add_left _ _)⟩
  iintro H8
  ihave H8 := (owns_of_acc (F := F) c a8 (mlpB v h r w1 b1 w2 b2) (fun _ => True) (fun _ => trivial)) $$ H8
  iapply (wp_done (F := F) c PUnit.unit rfl)
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.Proof.Gather
-- ==== Proof.Loop.lean ====
/-
  The MLP loop: the pipeline's proof data from any contents of the arrays, and the result it leaves.
-/
module

public import proofs.«01_k».proof.Proof.Mlp

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- Block `k` of the gathered rows. -/
def rowsB (g : S204800x128.Idx → Elt F .f32) (k : Fin 16) : S12800x128.Idx → Elt F .f32 := fun z =>
  g (Shape.pair (d := ![204800, 128]) ⟨12800 * k.val + (z 0).val, by have := k.isLt; have : (z 0).val < 12800 := (z 0).isLt; show _ < 204800; omega⟩ (z 1))

/-- Block `k` of the low bits. -/
def bitsB (h : S4096x64.Idx → Elt F .i32) (k : Fin 16) : S256x64.Idx → Elt F .i32 := fun z =>
  h (Shape.pair (d := ![4096, 64]) ⟨256 * k.val + (z 0).val, by have := k.isLt; have : (z 0).val < 256 := (z 0).isLt; show _ < 4096; omega⟩ (z 1))

/-- The whole result: row `256 * k + b` is row `b` of what block `k` gives. -/
def mlpT (g : S204800x128.Idx → Elt F .f32) (h : S4096x64.Idx → Elt F .i32) (r : S1x64.Idx → Elt F .f32)
    (w1 : S3328x1024.Idx → Elt F .bf16) (c1 : S1x1024.Idx → Elt F .f32) (w2 : S1024x1000.Idx → Elt F .bf16)
    (c2 : S1x1000.Idx → Elt F .f32) : S4096x1000.Idx → Elt F .f32 := fun y =>
  mlpB (rowsB g ⟨(y 0).val / 256, by have : (y 0).val < 4096 := (y 0).isLt; omega⟩)
    (bitsB h ⟨(y 0).val / 256, by have : (y 0).val < 4096 := (y 0).isLt; omega⟩) r w1 c1 w2 c2
    (Shape.pair (d := ![256, 1000]) ⟨(y 0).val % 256, Nat.mod_lt _ (by decide)⟩ (y 1))

/-- An entry of the result in row block `k` is that block's entry. -/
theorem mlpT_of (g : S204800x128.Idx → Elt F .f32) (h : S4096x64.Idx → Elt F .i32) (r : S1x64.Idx → Elt F .f32)
    (w1 : S3328x1024.Idx → Elt F .bf16) (c1 : S1x1024.Idx → Elt F .f32) (w2 : S1024x1000.Idx → Elt F .bf16)
    (c2 : S1x1000.Idx → Elt F .f32) (y : S4096x1000.Idx) (k : Fin 16) (z : S256x1000.Idx) (h0 : (y 0).val = 256 * k.val + (z 0).val)
    (h1 : (y 1).val = (z 1).val) :
    mlpT g h r w1 c1 w2 c2 y = mlpB (rowsB g k) (bitsB h k) r w1 c1 w2 c2 z := by
  have hz : (z 0).val < 256 := (z 0).isLt
  have hk : (⟨(y 0).val / 256, by have : (y 0).val < 4096 := (y 0).isLt; omega⟩ : Fin 16) = k := by
    apply Fin.ext; show (y 0).val / 256 = k.val; omega
  have hp : (Shape.pair (d := ![256, 1000]) ⟨(y 0).val % 256, Nat.mod_lt _ (by decide)⟩ (y 1)) = z := by
    refine idx2_ext ?_ ?_
    · show (y 0).val % 256 = (z 0).val; omega
    · exact h1
  unfold mlpT
  rw [hk]
  exact congrArg _ hp

section Dat1

variable (c : Dev nD) (V : (b : Ref sig .tc) → Buf (Elt F) ((c : Thread nD τ).loc b))

/-- The input blocks point `t` fetches. -/
abbrev b0 (t : Fin cfg2.N) : S12800x128.Idx → Elt F .f32 := ((cfg2.win 0).blk t).view.read (Elt F) (V main_v9)
abbrev b1 (t : Fin cfg2.N) : S256x64.Idx → Elt F .i32 := ((cfg2.win 1).blk t).view.read (Elt F) (V main_v7)
abbrev b2 (t : Fin cfg2.N) : S1x64.Idx → Elt F .f32 := ((cfg2.win 2).blk t).view.read (Elt F) (V main_v10)
abbrev b3 (t : Fin cfg2.N) : S3328x1024.Idx → Elt F .bf16 := ((cfg2.win 3).blk t).view.read (Elt F) (V main_v11)
abbrev b4 (t : Fin cfg2.N) : S1x1024.Idx → Elt F .f32 := ((cfg2.win 4).blk t).view.read (Elt F) (V main_v13)
abbrev b5 (t : Fin cfg2.N) : S1024x1000.Idx → Elt F .bf16 := ((cfg2.win 5).blk t).view.read (Elt F) (V main_v12)
abbrev b6 (t : Fin cfg2.N) : S1x1000.Idx → Elt F .f32 := ((cfg2.win 6).blk t).view.read (Elt F) (V main_v14)

/-- The scoped buffers this pipeline does not stage, at anything: the scratch is one of them. -/
abbrev Φ1 : sProp 𝕄 := Pipeline.scopedRest (Ix := HIx 1) (Name := ℕ) (U := UU) (Lvl := ℕ) (Val := Elt F) spec2 c

/-- The proof data of the MLP loop from contents `V`: the input blocks are left in place, the output's buffer is left at
    the value. -/
def dat1 : Pipeline.Dat τ (Elt F) (HIx 1) ℕ UU ℕ cfg2 c where
  A w := V (Pipeline.arrRef spec2 w)
  after w t := match w with
    | ⟨0, _⟩ => b0 c V t
    | ⟨1, _⟩ => b1 c V t
    | ⟨2, _⟩ => b2 c V t
    | ⟨3, _⟩ => b3 c V t
    | ⟨4, _⟩ => b4 c V t
    | ⟨5, _⟩ => b5 c V t
    | ⟨6, _⟩ => b6 c V t
    | ⟨7, _⟩ => mlpB (b0 c V t) (b1 c V t) (b2 c V t) (b3 c V t) (b4 c V t) (b5 c V t) (b6 c V t)
  Φ _ := Φ1 c
  q _ := fullShare
  owed _ := (K (F := F)).Otc c 1
  recorded _ := recd (F := F) c 1

/-! Each input's buffer holds its block when the body runs. -/

/-- Before a step, window 0 holds its block. -/
theorem before1_0 (t : Fin cfg2.N) (d : (cfg2.win 0).block.Idx → Elt F (cfg2.win 0).elt) : (dat1 c V).before 0 t d = b0 c V t :=
  (dat1 c V).before_in_eq_fetched 0 rfl (fun _ => rfl) (fun _ _ _ => rfl) (fun _ => rfl) t d
/-- Before a step, window 1 holds its block. -/
theorem before1_1 (t : Fin cfg2.N) (d : (cfg2.win 1).block.Idx → Elt F (cfg2.win 1).elt) : (dat1 c V).before 1 t d = b1 c V t :=
  (dat1 c V).before_in_eq_fetched 1 rfl (fun _ => rfl) (fun _ _ _ => rfl) (fun _ => rfl) t d
/-- Before a step, window 2 holds its block. -/
theorem before1_2 (t : Fin cfg2.N) (d : (cfg2.win 2).block.Idx → Elt F (cfg2.win 2).elt) : (dat1 c V).before 2 t d = b2 c V t :=
  (dat1 c V).before_in_eq_fetched 2 rfl (fun _ => rfl) (fun _ _ _ => rfl) (fun _ => rfl) t d
/-- Before a step, window 3 holds its block. -/
theorem before1_3 (t : Fin cfg2.N) (d : (cfg2.win 3).block.Idx → Elt F (cfg2.win 3).elt) : (dat1 c V).before 3 t d = b3 c V t :=
  (dat1 c V).before_in_eq_fetched 3 rfl (fun _ => rfl) (fun _ _ _ => rfl) (fun _ => rfl) t d
/-- Before a step, window 4 holds its block. -/
theorem before1_4 (t : Fin cfg2.N) (d : (cfg2.win 4).block.Idx → Elt F (cfg2.win 4).elt) : (dat1 c V).before 4 t d = b4 c V t :=
  (dat1 c V).before_in_eq_fetched 4 rfl (fun _ => rfl) (fun _ _ _ => rfl) (fun _ => rfl) t d
/-- Before a step, window 5 holds its block. -/
theorem before1_5 (t : Fin cfg2.N) (d : (cfg2.win 5).block.Idx → Elt F (cfg2.win 5).elt) : (dat1 c V).before 5 t d = b5 c V t :=
  (dat1 c V).before_in_eq_fetched 5 rfl (fun _ => rfl) (fun _ _ _ => rfl) (fun _ => rfl) t d
/-- Before a step, window 6 holds its block. -/
theorem before1_6 (t : Fin cfg2.N) (d : (cfg2.win 6).block.Idx → Elt F (cfg2.win 6).elt) : (dat1 c V).before 6 t d = b6 c V t :=
  (dat1 c V).before_in_eq_fetched 6 rfl (fun _ => rfl) (fun _ _ _ => rfl) (fun _ => rfl) t d

/-- The body's obligation at every point. -/
theorem obligation1 : Pipeline.BodyObligation (dat1 c V) (defs₀ (F := F)) 𝒱₀ none Set.univ := fun t => by
  rw [bigSep_W2, bigSep_W2]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (Entails.of_eq (congrArg (owns (c : Thread nD τ) (st2_0 t) fullShare) (before1_0 c V t d0))) $$ H0
  ihave H1 := (Entails.of_eq (congrArg (owns (c : Thread nD τ) (st2_1 t) fullShare) (before1_1 c V t d1))) $$ H1
  ihave H2 := (Entails.of_eq (congrArg (owns (c : Thread nD τ) (st2_2 t) fullShare) (before1_2 c V t d2))) $$ H2
  ihave H3 := (Entails.of_eq (congrArg (owns (c : Thread nD τ) (st2_3 t) fullShare) (before1_3 c V t d3))) $$ H3
  ihave H4 := (Entails.of_eq (congrArg (owns (c : Thread nD τ) (st2_4 t) fullShare) (before1_4 c V t d4))) $$ H4
  ihave H5 := (Entails.of_eq (congrArg (owns (c : Thread nD τ) (st2_5 t) fullShare) (before1_5 c V t d5))) $$ H5
  ihave H6 := (Entails.of_eq (congrArg (owns (c : Thread nD τ) (st2_6 t) fullShare) (before1_6 c V t d6))) $$ H6
  ihave HΦ := (Entails.of_eq (show (dat1 c V).Φ t.castSucc = Φ1 c from rfl)) $$ HΦ
  ihave HΦ := (Entails.of_eq (scopedRest2_eq c)) $$ HΦ
  icases HΦ with ⟨HA, HB, HC, HD, ⟨%s, Hs⟩⟩
  ihave Hs := (Entails.of_eq (owns_whole (c : Thread nD τ) cc2_scratch0 fullShare s).symm) $$ Hs
  iapply (mlp_body c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7)) (Memref.whole cc2_scratch0) (Memref.isWhole_whole _)
    (b0 c V t) (b1 c V t) (b2 c V t) (b3 c V t) (b4 c V t) (b5 c V t) (b6 c V t) _ s _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  iintro ⟨H0, H1, H2, H3, H4, H5, H6, H7, Hs⟩
  isplitl [HA HB HC HD Hs]
  · iapply (Entails.of_eq (show Φ1 c = (dat1 c V).Φ t.succ from rfl))
    iapply (Entails.of_eq (scopedRest2_eq c).symm)
    isplitl [HA]; · iexact HA
    isplitl [HB]; · iexact HB
    isplitl [HC]; · iexact HC
    isplitl [HD]; · iexact HD
    ihave Hs := (Entails.of_eq (owns_whole (c : Thread nD τ) cc2_scratch0 fullShare _)) $$ Hs
    iexists _
    iexact Hs
  isplitl [Howes]; · iapply (Entails.of_eq (show (dat1 c V).owesAt none t.castSucc = (dat1 c V).owesAt none t.succ from rfl)); iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The result array after the loop. -/
theorem out1 : (dat1 c V).arrAt 7 cfg2.N = mlpT (V main_v9) (V main_v7) (V main_v10) (V main_v11) (V main_v13) (V main_v12) (V main_v14) := by
  have e0 : ∀ t : Fin cfg2.N, win2_0.index t = ![t.val, 0] := (by decide +kernel : ∀ t : Fin grid2.N, win2_0.index t = ![t.val, 0])
  have e1 : ∀ t : Fin cfg2.N, win2_1.index t = ![t.val, 0] := (by decide +kernel : ∀ t : Fin grid2.N, win2_1.index t = ![t.val, 0])
  have e2 : ∀ t : Fin cfg2.N, win2_2.index t = ![0, 0] := (by decide +kernel : ∀ t : Fin grid2.N, win2_2.index t = ![0, 0])
  have e3 : ∀ t : Fin cfg2.N, win2_3.index t = ![0, 0] := (by decide +kernel : ∀ t : Fin grid2.N, win2_3.index t = ![0, 0])
  have e4 : ∀ t : Fin cfg2.N, win2_4.index t = ![0, 0] := (by decide +kernel : ∀ t : Fin grid2.N, win2_4.index t = ![0, 0])
  have e5 : ∀ t : Fin cfg2.N, win2_5.index t = ![0, 0] := (by decide +kernel : ∀ t : Fin grid2.N, win2_5.index t = ![0, 0])
  have e6 : ∀ t : Fin cfg2.N, win2_6.index t = ![0, 0] := (by decide +kernel : ∀ t : Fin grid2.N, win2_6.index t = ![0, 0])
  have e7 : ∀ t : Fin cfg2.N, win2_7.index t = ![t.val, 0] := (by decide +kernel : ∀ t : Fin grid2.N, win2_7.index t = ![t.val, 0])
  refine (dat1 c V).arrAt_eq_of_covers 7 _ (by decide +kernel) fun t hf y => ?_
  have hN : t.val < 16 := Nat.lt_of_lt_of_eq t.isLt (show cfg2.N = 16 from N_2)
  have B2 : b2 c V t = V main_v10 := funext fun z => congrArg (V main_v10) (idx2_ext (by blk_simp [e2]) (by blk_simp [e2]))
  have B3 : b3 c V t = V main_v11 := funext fun z => congrArg (V main_v11) (idx2_ext (by blk_simp [e3]) (by blk_simp [e3]))
  have B4 : b4 c V t = V main_v13 := funext fun z => congrArg (V main_v13) (idx2_ext (by blk_simp [e4]) (by blk_simp [e4]))
  have B5 : b5 c V t = V main_v12 := funext fun z => congrArg (V main_v12) (idx2_ext (by blk_simp [e5]) (by blk_simp [e5]))
  have B6 : b6 c V t = V main_v14 := funext fun z => congrArg (V main_v14) (idx2_ext (by blk_simp [e6]) (by blk_simp [e6]))
  have B0 : b0 c V t = rowsB (V main_v9) ⟨t.val, hN⟩ := funext fun z => congrArg (V main_v9) (idx2_ext
    (by blk_simp [e0]; show t.val * 12800 + (z 0).val = 12800 * t.val + (z 0).val; omega) (by blk_simp [e0]; rfl))
  have B1 : b1 c V t = bitsB (V main_v7) ⟨t.val, hN⟩ := funext fun z => congrArg (V main_v7) (idx2_ext
    (by blk_simp [e1]; show t.val * 256 + (z 0).val = 256 * t.val + (z 0).val; omega) (by blk_simp [e1]; rfl))
  show mlpB (b0 c V t) (b1 c V t) (b2 c V t) (b3 c V t) (b4 c V t) (b5 c V t) (b6 c V t) y = mlpT (V main_v9) (V main_v7) (V main_v10) (V main_v11) (V main_v13) (V main_v12) (V main_v14) (((cfg2.win 7).blk t).view.emb y)
  rw [B0, B1, B2, B3, B4, B5, B6]
  refine (mlpT_of _ _ _ _ _ _ _ _ ⟨t.val, hN⟩ y ?_ ?_).symm
  · blk_simp [e7]; show t.val * 256 + (y 0).val = 256 * t.val + (y 0).val; omega
  · blk_simp [e7]

end Dat1

end Cert.Proof.Gather
-- ==== Proof.Region.lean ====
/-
  The two pipelines as regions of the TensorCore's program: each takes every unscoped buffer at a valuation and gives it
  back with its result's array changed, keeping the core's debts to the SparseCores bounded.
-/
module

public import proofs.«01_k».proof.Proof.Loop

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The pipelines have no prefetched table. -/
abbrev adm : (p : Fin 2) → (pcfgs (F := F) p).Adm := fun p => (cfgs p).toPCfg_adm

section Reg

variable (V0 V1 : (c : Dev nD) → (b : Ref sig .tc) → Buf (Elt F) ((c : Thread nD τ).loc b))

/-- The proof data of the two pipelines, the first from `V0` and the second from `V1`. -/
def pdats : (p : Fin 2) → (c : Dev nD) → Pipeline.Dat τ (Elt F) (HIx 1) ℕ UU ℕ (Pipeline.pin (pcfgs (F := F)) adm p) c
  | ⟨0, _⟩ => fun c => dat0 c (V0 c)
  | ⟨1, _⟩ => fun c => dat1 c (V1 c)

/-- What core `c` owes before call `n`, its recorded waits bounded. -/
def debts (c : Dev nD) (n : ℕ) : sProp 𝕄 :=
  iprop(∃ W, ⌜(K (F := F)).WBelow (SparseCore.T c) W (8 * SparseCore.Cfg.Blocks.fst (Q := 1) 1 n)⌝ ∗ owes (c : Thread nD τ) ((K (F := F)).Otc c n) W)

/-- A core that owes what is due before a call may wait on its staging cells: they lie below every call. -/
theorem waits (p : Fin 2) (c : Dev nD) (n : ℕ) (h : ∀ t, (pdats V0 V1 p c).owed t = (K (F := F)).Otc c n) :
    (levAts (K (F := F)).L (K (F := F)).lev : sProp 𝕄) ⊢ Pipeline.cellsWaits (Pipeline.pin (pcfgs (F := F)) adm) (pdats V0 V1) none p c :=
  Pipeline.cellsWaits_of_cut (Pipeline.pin (pcfgs (F := F)) adm) (pdats V0 V1) none p c 0 ((K (F := F)).Otc c n) h
    (fun _ _ => Finset.mem_univ _) (fun _ _ => le_rfl)
    (fun g i hi => ⟨Finset.mem_univ _, by
      have := SparseCore.Cfg.lev_of_Otc_pos (K := K (F := F)) hi
      omega⟩)

set_option backward.isDefEq.respectTransparency.types false in
/-- Region 0, over the thread state: every unscoped buffer at `V0 c`, and the core's debts before call 0; left with the
    result's array at its value and every other buffer as it was. -/
def reg0 (Vp : (c : Dev nD) → (b : Ref sig .tc) → Buf (Elt F) ((c : Thread nD τ).loc b))
    (hout : ∀ c, Vp c main_v8 = packT (V0 c main_arg1))
    (hne : ∀ c (b : Ref sig .tc), b ≠ main_v8 → Vp c b = V0 c b) :
    Pipeline.RegionSeg (pcfgs (F := F)) adm (pdats V0 V1) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (obligation0 c (V0 c)).loose
  hwaits c := waits V0 V1 0 c 0 (fun _ => rfl)
  pre c := iprop(unscopedBufs c (V0 c) ∗ debts (F := F) c 0)
  post c := iprop(unscopedBufs c (Vp c) ∗ debts (F := F) c 0)
  X _ := BI.emp
  Y _ := BI.emp
  Z c := Pipeline.unscopedRest (Ix := HIx 1) (Name := ℕ) (U := UU) (Lvl := ℕ) spec0 c (V0 c)
  hentry c := by
    rw [Pipeline.ownSems0_none]
    have hsplit := Pipeline.arrays_of_unscopedBufs (p := 0) (pcfgs (F := F)) adm (pdats V0 V1) launch0.win launch0.arr_whole c
      ((pdats V0 V1 0 c).share_full fun _ => rfl) (V0 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold debts Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V0 V1 0 c).Φ 0 = Φ0 c from rfl]
    iintro ⟨-, -, Hr⟩; iexact Hr
  hout c := by
    rw [Pipeline.ownSems0_none, show (pdats V0 V1 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V0 V1) ((pdats V0 V1 0 c).share_full fun _ => rfl) (V0 c) (Vp c) ((pdats V0 V1 0 c).arrAt · cfg0.N)
      (fun w => by
        fin_cases w
        · exact ((pdats V0 V1 0 c).arrAt_in 0 rfl _).trans (hne c main_arg1 (by decide)).symm
        · exact (packed c (V0 c)).trans (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold debts Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

set_option backward.isDefEq.respectTransparency.types false in
/-- Region 1, over the thread state: every unscoped buffer at `V1 c`, and the core's debts before call 1; left with the
    result's array at its value and every other buffer as it was. -/
def reg1 (Vp : (c : Dev nD) → (b : Ref sig .tc) → Buf (Elt F) ((c : Thread nD τ).loc b))
    (hout : ∀ c, Vp c main_v15 = mlpT (V1 c main_v9) (V1 c main_v7) (V1 c main_v10) (V1 c main_v11) (V1 c main_v13) (V1 c main_v12) (V1 c main_v14))
    (hne : ∀ c (b : Ref sig .tc), b ≠ main_v15 → Vp c b = V1 c b) :
    Pipeline.RegionSeg (pcfgs (F := F)) adm (pdats V0 V1) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation1 c (V1 c)).loose
  hwaits c := waits V0 V1 1 c 1 (fun _ => rfl)
  pre c := iprop(unscopedBufs c (V1 c) ∗ debts (F := F) c 1)
  post c := iprop(unscopedBufs c (Vp c) ∗ debts (F := F) c 1)
  X _ := BI.emp
  Y _ := BI.emp
  Z c := Pipeline.unscopedRest (Ix := HIx 1) (Name := ℕ) (U := UU) (Lvl := ℕ) spec2 c (V1 c)
  hentry c := by
    rw [Pipeline.ownSems0_none]
    have hsplit := Pipeline.arrays_of_unscopedBufs (p := 1) (pcfgs (F := F)) adm (pdats V0 V1) launch2.win launch2.arr_whole c
      ((pdats V0 V1 1 c).share_full fun _ => rfl) (V1 c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold debts Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V0 V1 1 c).Φ 0 = Φ1 c from rfl]
    iintro ⟨-, -, Hr⟩; iexact Hr
  hout c := by
    rw [Pipeline.ownSems0_none, show (pdats V0 V1 1 c).Φ (Fin.last _) = Φ1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V0 V1) ((pdats V0 V1 1 c).share_full fun _ => rfl) (V1 c) (Vp c) ((pdats V0 V1 1 c).arrAt · cfg2.N)
      (fun w => by
        fin_cases w
        · exact ((pdats V0 V1 1 c).arrAt_in 0 rfl _).trans (hne c main_v9 (by decide)).symm
        · exact ((pdats V0 V1 1 c).arrAt_in 1 rfl _).trans (hne c main_v7 (by decide)).symm
        · exact ((pdats V0 V1 1 c).arrAt_in 2 rfl _).trans (hne c main_v10 (by decide)).symm
        · exact ((pdats V0 V1 1 c).arrAt_in 3 rfl _).trans (hne c main_v11 (by decide)).symm
        · exact ((pdats V0 V1 1 c).arrAt_in 4 rfl _).trans (hne c main_v13 (by decide)).symm
        · exact ((pdats V0 V1 1 c).arrAt_in 5 rfl _).trans (hne c main_v12 (by decide)).symm
        · exact ((pdats V0 V1 1 c).arrAt_in 6 rfl _).trans (hne c main_v14 (by decide)).symm
        · exact (out1 c (V1 c)).trans (hout c).symm)
      (fun b hb => hne c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold debts Pipeline.Dat.owesAt Pipeline.owesWithin
    icases HO with ⟨%W, %hW, HO⟩; iexists W
    isplitr
    · ipureintro
      intro p hp
      rcases hW hp with h | ⟨w, s, rfl⟩
      · exact h
      · exact Nat.zero_le _
    iexact HO

end Reg

end Cert.Proof.Gather
-- ==== Proof.Steps.lean ====
/-
  One lemma per copy and wait of the gather kernel on tile `i` of device `d`: the index fetch, the indirect gather, the
  write-out, each started on its slot and waited for on its semaphore.
-/
module

public import proofs.«01_k».proof.Proof.Blocks

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

variable (d : Dev nD) (i : grid1.Coords)

abbrev cV (i : grid1.Coords) : Fin τ.nSC := (i 0).castLE hcore1
abbrev jV (i : grid1.Coords) : Fin τ.nSub := (i 1).castLE hsub1
/-- Tile `i`'s thread. -/
abbrev tt : Thread nD τ := V d (cV i) (jV i)

/-- The table's contents and the index list's. -/
abbrev Tab (F : FTy → Type) : Type := S500000x128.Idx → Elt F .f32
abbrev Ixs (F : FTy → Type) : Type := S1x204800.Idx → Elt F .i32

variable (tb : Tab F) (ix : Ixs F)

abbrev Nin : ℕ := (inSlot 0).view.dmaCredit
abbrev Nout : ℕ := (outBlk 0).view.dmaCredit
abbrev Ng : ℕ := (outSlot 0).view.dmaCredit

/-- Block `b` of the index list at its contents; block `b` of the output at `f`; the slots at `f`. -/
abbrev iB (b : Fin 1600) : sProp 𝕄 := (idxBlk b).view.loc (tt d i) ↦[(idxBlk b).view.set]{fullShare} ix
abbrev oB (b : Fin 1600) (f : S204800x128.Idx → Elt F .f32) : sProp 𝕄 := (outBlk b).view.loc (tt d i) ↦[(outBlk b).view.set]{fullShare} f
abbrev inAt (s : Fin 2) (f : S2x1x128.Idx → Elt F .i32) : sProp 𝕄 := (inSlot s).view.loc (tt d i) ↦[(inSlot s).view.set]{fullShare} f
abbrev outAt (s : Fin 2) (f : S2x128x128.Idx → Elt F .f32) : sProp 𝕄 := (outSlot s).view.loc (tt d i) ↦[(outSlot s).view.set]{fullShare} f
abbrev oAny (b : Fin 1600) : sProp 𝕄 := iprop(∃ f, oB d i b f)
abbrev inAny (s : Fin 2) : sProp 𝕄 := iprop(∃ f, inAt d i s f)
abbrev outAny (s : Fin 2) : sProp 𝕄 := iprop(∃ f, outAt d i s f)
abbrev inZ (s : Fin 2) : sProp 𝕄 := semVal ((tt d i), SemLoc.dma (inSem s)) 0
abbrev outZ (s : Fin 2) : sProp 𝕄 := semVal ((tt d i), SemLoc.dma (outSem s)) 0
abbrev gZ : sProp 𝕄 := semVal ((tt d i), SemLoc.dma gSem) 0
/-- Index slot `s` holding block `b` of the index list. -/
abbrev inHas (b : Fin 1600) (s : Fin 2) : sProp 𝕄 :=
  iprop(∃ f : S2x1x128.Idx → Elt F .i32, ⌜(inSlot s).view.read (Elt F) f = (idxBlk b).view.read (Elt F) ix⌝ ∗ inAt d i s f)
/-- Row slot `s` holding block `b`'s gathered rows. -/
abbrev outHas (b : Fin 1600) (s : Fin 2) : sProp 𝕄 :=
  iprop(∃ f : S2x128x128.Idx → Elt F .f32, ⌜∀ j, (outSlot s).view.read (Elt F) f j = gath tb ix ((outBlk b).view.emb j)⌝ ∗ outAt d i s f)

/-- The fetch of block `b` into index slot `s` in flight; the write-out of row slot `s` to block `b`. -/
abbrev FLin (b : Fin 1600) (s : Fin 2) : sProp 𝕄 :=
  Transfers.Flight countersEmb (tt d i) (.dma (inSem s)) (none : HIx 1) Nin iprop(inHas d i ix b s ∗ iB d i ix b)
abbrev FLout (b : Fin 1600) (s : Fin 2) : sProp 𝕄 :=
  Transfers.Flight countersEmb (tt d i) (.dma (outSem s)) (none : HIx 1) Nout iprop(oB d i b (gath tb ix) ∗ outAny d i s)

abbrev tShare (q : PosShare TreeShare) : sProp 𝕄 := (tV).view.loc (tt d i) ↦{q} tb

variable {α : Type} {Q : α → sProp (MT nD τ sig (SparseCore.Cfg.HIx 1) (Elt F) ℕ UU ℕ)}

/-- Starting block `b`'s fetch into a free slot puts it in flight. -/
theorem wp_in_start (b : Fin 1600) (s : Fin 2) {k : PUnit → Prog (TpuEff nD τ sig (Elt F) Λ₀ (.scVector (cV i) (jV i))) α}
    {src : Memref sig .scVector .hbm S1x128 .i32} (hs : src = idxBlk b) {dst : Memref sig .scVector .vmem S1x128 .i32} (hd : dst = inSlot s)
    {sem : DmaSem sig} (hm : sem = inSem s) {hsrc : src.view.WordExact} {hdst : dst.view.WordExact}
    {hsem : (DmaTarget.here dst : DmaTarget nD τ sig (.scVector (cV i) (jV i)) .vmem S1x128 .i32).Typed .hbm (.dma sem)} :
    iprop(iB d i ix b ∗ inAny d i s ∗ inZ d i s)
      ⊢ iprop((FLin d i ix b s -∗ wp frame (wpE (defs₀ (F := F)) 𝒱₀ (tt d i) none) Set.univ (k ⟨⟩) Q)
          -∗ wp frame (wpE (defs₀ (F := F)) 𝒱₀ (tt d i) none) Set.univ (.op (.enqueueDma src (.here dst) (.dma sem) hsrc hdst hsem) k) Q) := by
  subst hs hd hm
  iintro ⟨Hs, ⟨%f, Hd⟩, Hz⟩ Hk
  iapply (Transfers.wp_dmaLocal countersEmb 𝒱₀ (tt d i) none (none : HIx 1) Nin (by rfl) (by decide) (subset_refl _)) $$ [Hs Hd Hz]
  · isplitl [Hs]; · iexact Hs
    isplitl [Hd]; · iexact Hd
    iexact Hz
  iintro Hf
  iapply Hk
  iapply (Transfers.Flight_mono countersEmb (tt d i) (show _ ⊢ iprop(inHas d i ix b s ∗ iB d i ix b) from ?_)) $$ Hf
  iintro ⟨Hb, Hx⟩
  isplitl [Hb]
  · iexists _; isplitr
    swap; · iexact Hb
    ipureintro
    rw [View.read_write_univ]
  iexact Hx

/-- Waiting for a fetch leaves the slot with the block's words. -/
theorem wp_in_wait (b : Fin 1600) (s : Fin 2) {k : PUnit → Prog (TpuEff nD τ sig (Elt F) Λ₀ (.scVector (cV i) (jV i))) α}
    {src : Memref sig .scVector .hbm S1x128 .i32} {dst : Memref sig .scVector .vmem S1x128 .i32} (hd : dst = inSlot s)
    {sem : DmaSem sig} (hm : sem = inSem s) {hsrc : src.view.WordExact} {hdst : dst.view.WordExact}
    {O : CellTallies nD τ sig (HIx 1)} {W : Waits sig (HIx 1)} :
    iprop(FLin d i ix b s ∗ owes (tt d i) O W ∗ Transfers.MayWaits (tt d i) (none : HIx 1) O)
      ⊢ iprop((iprop(inHas d i ix b s ∗ iB d i ix b ∗ inZ d i s ∗ owes (tt d i) O (insert (SemLoc.dma (inSem s), none) W))
            -∗ wp frame (wpE (defs₀ (F := F)) 𝒱₀ (tt d i) none) Set.univ (k ⟨⟩) Q)
          -∗ wp frame (wpE (defs₀ (F := F)) 𝒱₀ (tt d i) none) Set.univ (.op (.waitDma2 sem src dst hsrc hdst) k) Q) := by
  subst hd hm
  iintro ⟨Hf, HO, Hmw⟩ Hk
  iapply (Transfers.wp_waitLocalO countersEmb 𝒱₀ (tt d i) none (none : HIx 1) (by rfl)) $$ [Hf HO Hmw]
  · isplitl [Hf]; · iexact Hf
    isplitl [HO]; · iexact HO
    iapply (Transfers.MayWaits.elim (SemLoc.dma (inSem s))) $$ Hmw
  iintro ⟨⟨Hb, Hx⟩, Hz, HO⟩
  iapply Hk
  isplitl [Hb]; · iexact Hb
  isplitl [Hx]; · iexact Hx
  isplitl [Hz]; · iexact Hz
  iexact HO

/-- Starting the write-out of a slot that holds block `b`'s rows puts it in flight. -/
theorem wp_out_start (b : Fin 1600) (s : Fin 2) {k : PUnit → Prog (TpuEff nD τ sig (Elt F) Λ₀ (.scVector (cV i) (jV i))) α}
    {src : Memref sig .scVector .vmem S128x128 .f32} (hs : src = outSlot s) {dst : Memref sig .scVector .hbm S128x128 .f32} (hd : dst = outBlk b)
    {sem : DmaSem sig} (hm : sem = outSem s) {hsrc : src.view.WordExact} {hdst : dst.view.WordExact}
    {hsem : (DmaTarget.here dst : DmaTarget nD τ sig (.scVector (cV i) (jV i)) .hbm S128x128 .f32).Typed .vmem (.dma sem)} :
    iprop(outHas d i tb ix b s ∗ oAny d i b ∗ outZ d i s)
      ⊢ iprop((FLout d i tb ix b s -∗ wp frame (wpE (defs₀ (F := F)) 𝒱₀ (tt d i) none) Set.univ (k ⟨⟩) Q)
          -∗ wp frame (wpE (defs₀ (F := F)) 𝒱₀ (tt d i) none) Set.univ (.op (.enqueueDma src (.here dst) (.dma sem) hsrc hdst hsem) k) Q) := by
  subst hs hd hm
  iintro ⟨⟨%f, %hf, Hs⟩, ⟨%g, Hd⟩, Hz⟩ Hk
  iapply (Transfers.wp_dmaLocal countersEmb 𝒱₀ (tt d i) none (none : HIx 1) Nout (by rfl) (by decide) (subset_refl _)) $$ [Hs Hd Hz]
  · isplitl [Hs]; · iexact Hs
    isplitl [Hd]; · iexact Hd
    iexact Hz
  iintro Hf
  iapply Hk
  iapply (Transfers.Flight_mono countersEmb (tt d i) (show _ ⊢ iprop(oB d i b (gath tb ix) ∗ outAny d i s) from ?_)) $$ Hf
  iintro ⟨Hb, Hx⟩
  isplitl [Hb]
  · iapply (Entails.of_eq (pointsTo_congr ?_)) $$ Hb
    intro x hx
    obtain ⟨j, -, rfl⟩ := Finset.mem_map.mp hx
    rw [View.write_emb_of_mem _ _ (Finset.mem_univ _), cast_eq]
    exact hf j
  iexists _; iexact Hx

/-- Waiting for a write-out leaves the output block with its rows. -/
theorem wp_out_wait (b : Fin 1600) (s : Fin 2) {k : PUnit → Prog (TpuEff nD τ sig (Elt F) Λ₀ (.scVector (cV i) (jV i))) α}
    {src : Memref sig .scVector .vmem S128x128 .f32} {dst : Memref sig .scVector .hbm S128x128 .f32} (b' : Fin 1600) (hd : dst = outBlk b')
    {sem : DmaSem sig} (hm : sem = outSem s) {hsrc : src.view.WordExact} {hdst : dst.view.WordExact}
    {O : CellTallies nD τ sig (HIx 1)} {W : Waits sig (HIx 1)} :
    iprop(FLout d i tb ix b s ∗ owes (tt d i) O W ∗ Transfers.MayWaits (tt d i) (none : HIx 1) O)
      ⊢ iprop((iprop(oB d i b (gath tb ix) ∗ outAny d i s ∗ outZ d i s ∗ owes (tt d i) O (insert (SemLoc.dma (outSem s), none) W))
            -∗ wp frame (wpE (defs₀ (F := F)) 𝒱₀ (tt d i) none) Set.univ (k ⟨⟩) Q)
          -∗ wp frame (wpE (defs₀ (F := F)) 𝒱₀ (tt d i) none) Set.univ (.op (.waitDma2 sem src dst hsrc hdst) k) Q) := by
  subst hd hm
  iintro ⟨Hf, HO, Hmw⟩ Hk
  iapply (Transfers.wp_waitLocalO countersEmb 𝒱₀ (tt d i) none (none : HIx 1) (by rfl)) $$ [Hf HO Hmw]
  · isplitl [Hf]; · iexact Hf
    isplitl [HO]; · iexact HO
    iapply (Transfers.MayWaits.elim (SemLoc.dma (outSem s))) $$ Hmw
  iintro ⟨⟨Hb, Hx⟩, Hz, HO⟩
  iapply Hk
  isplitl [Hb]; · iexact Hb
  isplitl [Hx]; · iexact Hx
  isplitl [Hz]; · iexact Hz
  iexact HO

/-- The indirect gather through the list in index slot `s` into row slot `s'`, started. -/
abbrev FLg (b : Fin 1600) (s s' : Fin 2) (q : PosShare TreeShare) : sProp 𝕄 :=
  Transfers.Flight countersEmb (tt d i) (.dma gSem) (none : HIx 1) Ng
    iprop(outHas d i tb ix b s' ∗ ((tAll).view.loc (tt d i) ↦[(tAll).view.set]{q} tb) ∗ inAny d i s)

/-- Starting the gather of the rows that a slot's words name puts it in flight. -/
theorem wp_g_start (hI : ∀ x, (ix x).toNat < 500000) (b : Fin 1600) (s s' : Fin 2) (q : PosShare TreeShare)
    {k : PUnit → Prog (TpuEff nD τ sig (Elt F) Λ₀ (.scVector (cV i) (jV i))) α}
    {src : Memref sig .scVector .hbm S500000x128 .f32} (hs : src = tAll) {dst : Memref sig .scVector .vmem S128x128 .f32} (hd : dst = outSlot s')
    {offs : Memref sig .scVector .vmem S128 .i32} (ho : offs = inList s)
    {hp : Kind.scVector = .scVector} {hg : S500000x128.Gathers 0 S128x128} {hn : S128.numel = S128x128.size hg.axis'}
    {hsrc : src.view.WordExact} {he : EltTy.f32.bits = 32} {hsp : Space.hbm = .hbm ∨ Space.hbm = .shared} {hr : S500000x128.StreamRows 0} :
    iprop(((tAll).view.loc (tt d i) ↦[(tAll).view.set]{q} tb) ∗ outAny d i s' ∗ inHas d i ix b s ∗ gZ d i)
      ⊢ iprop((FLg d i tb ix b s s' q -∗ wp frame (wpE (defs₀ (F := F)) 𝒱₀ (tt d i) none) Set.univ (k ⟨⟩) Q)
          -∗ wp frame (wpE (defs₀ (F := F)) 𝒱₀ (tt d i) none) Set.univ
            (SparseCore.enqueueIndirectGather hp src dst hg offs hn gSem hsrc he hsp hr >>= k) Q) := by
  subst hs hd ho
  iintro ⟨Ht, ⟨%f, Hd⟩, ⟨%g, %hg', Hi⟩, Hz⟩ Hk
  have hN : ∀ (s' : Fin 2) (h : S500000x128.Gathers 0 S128x128), ∑ j, ((outSlot s').slice (S128x128.rowRect h.axis' j) (S128x128.stride_rowRect h.axis' j)).view.dmaCredit
      = Ng := by decide
  have hin := hin_of hI hg' hg
  ihave Hi := (Entails.of_eq (show (inAt d i s g : sProp 𝕄) = ((inList s).view.loc (tt d i) ↦[(inList s).view.set]{fullShare} g) by rw [set_inList])) $$ Hi
  iapply (SparseCore.wp_indirectGatherLocal countersEmb 𝒱₀ (tt d i) none (hg := hg) (none : HIx 1) Ng (hN s' _) (by decide) hin) $$ [Ht Hd Hi Hz]
  · isplitl [Ht]; · iexact Ht
    isplitl [Hd]; · iexact Hd
    isplitl [Hi]; · iexact Hi
    iexact Hz
  iintro Hf
  iapply Hk
  iapply (Transfers.Flight_mono countersEmb (tt d i) (show _ ⊢ iprop(outHas d i tb ix b s' ∗ ((tAll).view.loc (tt d i) ↦[(tAll).view.set]{q} tb) ∗ inAny d i s) from ?_)) $$ Hf
  iintro ⟨Hb, Hx, Hl⟩
  isplitl [Hb]
  · iexists _; isplitr
    swap; · iexact Hb
    ipureintro
    intro j
    rw [View.read_write_univ]
    exact gather_read hI tb hg' hg hn hin j
  isplitl [Hx]; · iexact Hx
  iexists g
  iapply (Entails.of_eq (show ((inList s).view.loc (tt d i) ↦[(inList s).view.set]{fullShare} g : sProp 𝕄) = inAt d i s g by rw [set_inList])) $$ Hl

/-- Waiting for the gather leaves the slot with those rows. -/
theorem wp_g_wait (b : Fin 1600) (s s' : Fin 2) (q : PosShare TreeShare)
    {k : PUnit → Prog (TpuEff nD τ sig (Elt F) Λ₀ (.scVector (cV i) (jV i))) α}
    {src : Memref sig .scVector .hbm S500000x128 .f32} {dst : Memref sig .scVector .vmem S128x128 .f32} (hd : dst = outSlot s')
    {hsrc : src.view.WordExact} {hdst : dst.view.WordExact}
    {O : CellTallies nD τ sig (HIx 1)} {W : Waits sig (HIx 1)} :
    iprop(FLg d i tb ix b s s' q ∗ owes (tt d i) O W ∗ Transfers.MayWaits (tt d i) (none : HIx 1) O)
      ⊢ iprop((iprop(outHas d i tb ix b s' ∗ ((tAll).view.loc (tt d i) ↦[(tAll).view.set]{q} tb) ∗ inAny d i s ∗ gZ d i
              ∗ owes (tt d i) O (insert (SemLoc.dma gSem, none) W))
            -∗ wp frame (wpE (defs₀ (F := F)) 𝒱₀ (tt d i) none) Set.univ (k ⟨⟩) Q)
          -∗ wp frame (wpE (defs₀ (F := F)) 𝒱₀ (tt d i) none) Set.univ (.op (.waitDma2 gSem src dst hsrc hdst) k) Q) := by
  subst hd
  iintro ⟨Hf, HO, Hmw⟩ Hk
  iapply (Transfers.wp_waitLocalO countersEmb 𝒱₀ (tt d i) none (none : HIx 1) (by rfl)) $$ [Hf HO Hmw]
  · isplitl [Hf]; · iexact Hf
    isplitl [HO]; · iexact HO
    iapply (Transfers.MayWaits.elim (SemLoc.dma gSem)) $$ Hmw
  iintro ⟨⟨Hb, Hx, Hl⟩, Hz, HO⟩
  iapply Hk
  isplitl [Hb]; · iexact Hb
  isplitl [Hx]; · iexact Hx
  isplitl [Hl]; · iexact Hl
  isplitl [Hz]; · iexact Hz
  iexact HO

end Cert.Proof.Gather
-- ==== Proof.Trip.lean ====
/-
  One trip of the gather kernel's loop, from what it holds before trip `k` to what it holds before trip `k + 1`.
-/
module

public import proofs.«01_k».proof.Proof.Steps

@[expose] public section

noncomputable section

attribute [local irreducible] Idealize.SL.BI.bigSep

namespace Cert.Proof.Gather

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

variable (d : Dev nD) (i : grid1.Coords) (tb : Tab F) (ix : Ixs F)
variable (O : CellTallies nD τ sig (HIx 1)) (W : Waits sig (HIx 1)) (q : PosShare TreeShare)

/-- Tile `i`'s `k`-th block. -/
def bk (i : grid1.Coords) (k : Fin 50) : Fin 1600 :=
  ⟨blkN i k.val, by have h0 : (i 0).val < 2 := (i 0).isLt; have h1 : (i 1).val < 16 := (i 1).isLt; have := k.isLt; unfold blkN; omega⟩

/-- The block number of a step, as a bounded number. -/
theorem blkN_eq {n : ℕ} (h : n < 50) : blkN i n = (bk i ⟨n, h⟩).val := rfl

abbrev sl (k : ℕ) : Fin 2 := Ring.sl 2 k
/-- The slot of step `k` is its parity. -/
theorem sl_val (k : ℕ) : (sl k).val = k % 2 := rfl
/-- Two steps on, the slot is the same. -/
theorem sl_add_two (k : ℕ) : sl (k + 2) = sl k := Ring.sl_add 2 k

/-- The fetch side before trip `k`: block `k`'s fetch in flight, or its slot free past the last. -/
def sIn (k : ℕ) : sProp 𝕄 := if h : k < 50 then FLin d i ix (bk i ⟨k, h⟩) (sl k) else iprop(inZ d i (sl k) ∗ inAny d i (sl k))
/-- The write-out side before trip `k`: block `k - 1`'s write-out in flight, or its slot free at the first. -/
def sOut (k : ℕ) : sProp 𝕄 :=
  if h : 1 ≤ k ∧ k - 1 < 50 then FLout d i tb ix (bk i ⟨k - 1, h.2⟩) (sl (k + 1)) else iprop(outZ d i (sl (k + 1)) ∗ outAny d i (sl (k + 1)))

abbrev tPart : sProp 𝕄 := (tAll).view.loc (tt d i) ↦[(tAll).view.set]{q} tb
abbrev iBs (lo hi : ℕ) : sProp 𝕄 := bigSep (Ring.rangeSet 50 lo hi) fun k => iB d i ix (bk i k)
abbrev oAnys (lo hi : ℕ) : sProp 𝕄 := bigSep (Ring.rangeSet 50 lo hi) fun k => oAny d i (bk i k)
abbrev oBs (lo hi : ℕ) : sProp 𝕄 := bigSep (Ring.rangeSet 50 lo hi) fun k => oB d i (bk i k) (gath tb ix)
abbrev owing : sProp 𝕄 := iprop(∃ W', ⌜∀ p ∈ W', p ∈ W ∨ p.2 = none⌝ ∗ owes (tt d i) O W')

/-- What tile `i` holds before trip `k`. -/
def Core (k : ℕ) : sProp 𝕄 :=
  iprop(Transfers.MayWaits (tt d i) (none : HIx 1) O ∗ owing d i O W ∗ tPart d i tb q ∗ gZ d i
    ∗ sIn d i ix k ∗ (inZ d i (sl (k + 1)) ∗ inAny d i (sl (k + 1)))
    ∗ sOut d i tb ix k ∗ (outZ d i (sl k) ∗ outAny d i (sl k))
    ∗ iBs d i ix (k + 1) 50 ∗ iBs d i ix 0 k ∗ oAnys d i k 50 ∗ oBs d i tb ix 0 (k - 1))

/-- Before trip `k` the fetch of block `k` is in flight. -/
theorem sIn_of_lt {k : ℕ} (h : k < 50) : sIn d i ix k = FLin d i ix (bk i ⟨k, h⟩) (sl k) := by unfold sIn; rw [dif_pos h]
/-- Past the last trip the fetch slot is free. -/
theorem sIn_of_ge {k : ℕ} (h : ¬ k < 50) : sIn d i ix k = iprop(inZ d i (sl k) ∗ inAny d i (sl k)) := by unfold sIn; rw [dif_neg h]
/-- After trip `k` the write-out of block `k` is in flight. -/
theorem sOut_succ {k : ℕ} (h : k < 50) : sOut d i tb ix (k + 1) = FLout d i tb ix (bk i ⟨k, h⟩) (sl k) := by
  unfold sOut; rw [dif_pos ⟨by omega, by omega⟩, sl_add_two]; rfl
/-- At the first trip the write-out slot is free. -/
theorem sOut_zero : sOut d i tb ix 0 = iprop(outZ d i (sl 1) ∗ outAny d i (sl 1)) := by
  unfold sOut; rw [dif_neg (by omega)]

variable {α : Type} {Q : α → sProp (MT nD τ sig (SparseCore.Cfg.HIx 1) (Elt F) ℕ UU ℕ)}

local notation "PG" => Prog (TpuEff nD τ sig (Elt F) Λ₀ (Proc.scVector (cV i) (jV i)))

/-- A guarded step: one operation or none, the same value and the same resources after. -/
theorem wp_guard {β : Type} {P : Prop} [dP : Decidable P] {A : P → PG β} {B : ¬P → PG β} {rest : β → PG α}
    (e : P → TpuEff nD τ sig (Elt F) Λ₀ (Proc.scVector (cV i) (jV i)) PUnit) (v : β)
    (hA : ∀ h, A h = .op (e h) fun _ => .ret v) (hB : ∀ h, B h = .ret v)
    (H R : sProp (MT nD τ sig (SparseCore.Cfg.HIx 1) (Elt F) ℕ UU ℕ))
    (pos : ∀ h, H ⊢ iprop((R -∗ wp frame (wpE (defs₀ (F := F)) 𝒱₀ (tt d i) none) Set.univ (rest v) Q)
      -∗ wp frame (wpE (defs₀ (F := F)) 𝒱₀ (tt d i) none) Set.univ (.op (e h) fun _ => rest v) Q))
    (neg : ¬P → (H ⊢ R)) :
    H ⊢ iprop((R -∗ wp frame (wpE (defs₀ (F := F)) 𝒱₀ (tt d i) none) Set.univ (rest v) Q)
      -∗ wp frame (wpE (defs₀ (F := F)) 𝒱₀ (tt d i) none) Set.univ (dite P A B >>= rest) Q) := by
  by_cases h : P
  · rw [dif_pos h, hA h]; exact pos h
  · rw [dif_neg h, hB h]
    iintro HH Hk
    iapply Hk
    iapply (neg h) $$ HH

/-- A branch whose condition holds, with a program after it, takes the first arm. -/
theorem wp_pos_bind {β : Type} {P : Prop} [dP : Decidable P] {A : P → PG β} {B : ¬P → PG β} {rest : β → PG α} (h : P) :
    wp frame (wpE (defs₀ (F := F)) 𝒱₀ (tt d i) none) Set.univ (A h >>= rest) Q
      ⊢ wp frame (wpE (defs₀ (F := F)) 𝒱₀ (tt d i) none) Set.univ (dite P A B >>= rest) Q := by
  rw [dif_pos h]
/-- A branch whose condition holds takes the first arm. -/
theorem wp_pos {P : Prop} [dP : Decidable P] {A : P → PG α} {B : ¬P → PG α} (h : P) :
    wp frame (wpE (defs₀ (F := F)) 𝒱₀ (tt d i) none) Set.univ (A h) Q
      ⊢ wp frame (wpE (defs₀ (F := F)) 𝒱₀ (tt d i) none) Set.univ (dite P A B) Q := by
  rw [dif_pos h]
/-- A branch whose condition fails takes the second arm. -/
theorem wp_neg {P : Prop} [dP : Decidable P] {A : P → PG α} {B : ¬P → PG α} (h : ¬P) :
    wp frame (wpE (defs₀ (F := F)) 𝒱₀ (tt d i) none) Set.univ (B h) Q
      ⊢ wp frame (wpE (defs₀ (F := F)) 𝒱₀ (tt d i) none) Set.univ (dite P A B) Q := by
  rw [dif_neg h]

/-- One more wait of the tile's own keeps the bound on its waits. -/
theorem owed_insert {W' : Waits sig (HIx 1)} (hW' : ∀ p ∈ W', p ∈ W ∨ p.2 = none) (sm : SemLoc sig) :
    ∀ p ∈ insert (sm, (none : HIx 1)) W', p ∈ W ∨ p.2 = none := by
  intro p hp
  rcases Finset.mem_insert.mp hp with rfl | hp
  · exact .inr rfl
  · exact hW' p hp

set_option maxHeartbeats 1600000 in
/-- One trip takes what the tile holds before trip `k` to what it holds before the next. -/
theorem trip (hI : ∀ x, (ix x).toNat < 500000) (k : Fin k1_t1_loop.trips) :
    Core d i tb ix O W q k.val
      ⊢ wp frame (wpE (defs₀ (F := F)) 𝒱₀ (tt d i) none) Set.univ
          (k1_t1_body i tV (Memref.isWhole_whole _) iV (Memref.isWhole_whole _) oV (Memref.isWhole_whole _) sV (Memref.isWhole_whole _) cc1_scoped1
            rV (Memref.isWhole_whole _) cc1_scoped3 cc1_scoped4 (v4W i) k (wd (k.val + 1), wd k.val, wd k.val, wd (k.val - 1), wd k.val))
          fun acc => iprop(⌜acc = nextW i k.val (wd (k.val + 1)) (wd k.val) (wd k.val) (wd (k.val - 1)) (wd k.val)⌝ ∗ Core d i tb ix O W q (k.val + 1)) := by
  have hk : k.val < 50 := trips_eq ▸ k.isLt
  unfold k1_t1_body
  simp only [k1_part1_eq_skeleton, k1_part2_eq_skeleton]
  unfold k1_part1_skel k1_part2_skel
  simp only [Prog.lift, Prog.bind_op, Prog.bind_ret, Prog.pure_eq_ret, Prog.bind_assoc, ite_self]
  unfold Core
  iintro ⟨#Hmw, ⟨%W₀, %hW₀, HO⟩, Ht, Hg, HsI, HfI, HsO, ⟨HzO, HfO⟩, Hix, Hid, Hox, Hod⟩
  iapply (wp_assume 𝒱₀ (tt d i) none Set.univ (chk3_ok ⟨k.val, hk⟩))
  iapply (wp_assume 𝒱₀ (tt d i) none Set.univ (chk2_ok ⟨k.val, hk⟩))
  iapply (wp_assume 𝒱₀ (tt d i) none Set.univ (chk1_ok i k))
  dsimp only
  -- the next block's fetch starts, unless this is the last trip
  iapply (wp_guard (F := F) d i _ _ (fun _ => rfl) (fun _ => rfl) iprop((inZ d i (sl (k.val + 1)) ∗ inAny d i (sl (k.val + 1))) ∗ iBs d i ix (k.val + 1) 50)
    iprop(sIn d i ix (k.val + 1) ∗ iBs d i ix (k.val + 2) 50) (fun h => ?_) (fun h => ?_)) $$ [HfI Hix]
  · have hk1 : k.val + 1 < 50 := by have := (cond1_iff i ⟨k.val, hk⟩).mp h; simp only at this; omega
    iintro ⟨⟨Hz, Hf⟩, Hix⟩ Hk
    ihave Hix := (Entails.of_eq (Ring.bigSep_rangeSet_head (NB := 50) (Φ := fun k => iB d i ix (bk i k)) hk1 hk1)) $$ Hix
    icases Hix with ⟨Hx, Hix⟩
    iapply (wp_in_start d i ix (bk i ⟨k.val + 1, hk1⟩) (sl (k.val + 1))
      (idxBlk_of _ (off5_eq i ⟨k.val, by omega⟩) _) (inSlot_of _ (off4_eq ⟨k.val + 1, by omega⟩) _) (inSem_of _ (off6_eq ⟨k.val + 1, by omega⟩) _)) $$ [Hx Hf Hz]
    · isplitl [Hx]; · iexact Hx
      isplitl [Hf]; · iexact Hf
      iexact Hz
    iintro HF
    iapply Hk
    isplitl [HF]
    · iapply (Entails.of_eq (sIn_of_lt (F := F) d i ix hk1).symm) $$ HF
    · iexact Hix
  · have hk1 : ¬ k.val + 1 < 50 := fun h' => h ((cond1_iff i ⟨k.val, hk⟩).mpr (by show k.val < 49; omega))
    rw [sIn_of_ge (F := F) d i ix hk1]; unfold iBs
    rw [Ring.bigSep_rangeSet_empty (show 50 ≤ k.val + 1 by omega), Ring.bigSep_rangeSet_empty (show 50 ≤ k.val + 2 by omega)]
  · isplitl [HfI]; · iexact HfI
    iexact Hix
  iintro ⟨HsI', Hix⟩
  iapply (wp_pos_bind (F := F) d i (cond2_eq i ⟨k.val, hk⟩))
  simp only [Prog.bind_op, Prog.bind_ret, Prog.bind_assoc, SparseCore.waitIndirectGather]
  -- this block's fetch lands
  ihave HsI := (Entails.of_eq (sIn_of_lt (F := F) d i ix hk)) $$ HsI
  iapply (wp_in_wait d i ix (bk i ⟨k.val, hk⟩) (sl k.val) (inSlot_of _ (off7_eq ⟨k.val, by omega⟩) _) (inSem_of _ (off9_eq ⟨k.val, by omega⟩) _)) $$ [HsI HO]
  · isplitl [HsI]; · iexact HsI
    isplitl [HO]; · iexact HO
    iexact Hmw
  iintro ⟨Hin, Hx, HzI, HO⟩
  -- the gather through its list, and its wait
  iapply (wp_g_start d i tb ix hI (bk i ⟨k.val, hk⟩) (sl k.val) (sl k.val) q rfl (outSlot_of _ (off10_eq ⟨k.val, by omega⟩) _)
    (congrArg (fun m : Memref sig .scVector .vmem S1x128 .i32 => (m.slice (Rect.unit (s := S1x128) ![0, 0] S1x128.size inb_S1x128_S1x128_0_0) (fun _ => rfl)).squeeze S128 squeezes_S1x128_S128)
      (inSlot_of (sl k.val) (off11_eq ⟨k.val, by omega⟩) _))) $$ [Ht Hin HfO Hg]
  · isplitl [Ht]; · iexact Ht
    isplitl [HfO]; · iexact HfO
    isplitl [Hin]; · iexact Hin
    iexact Hg
  iintro Hf
  iapply (wp_g_wait d i tb ix (bk i ⟨k.val, hk⟩) (sl k.val) (sl k.val) q (outSlot_of _ (off10_eq ⟨k.val, by omega⟩) _)) $$ [Hf HO]
  · isplitl [Hf]; · iexact Hf
    isplitl [HO]; · iexact HO
    iexact Hmw
  iintro ⟨Hout, Ht, HfI', Hg, HO⟩
  iapply (wp_pos (F := F) d i (cond5_eq i ⟨k.val, hk⟩))
  simp only [Prog.bind_op, Prog.bind_ret, Prog.bind_assoc]
  -- its rows' write-out starts
  ihave Hox := (Entails.of_eq (Ring.bigSep_rangeSet_head (NB := 50) (Φ := fun k => oAny d i (bk i k)) hk hk)) $$ Hox
  icases Hox with ⟨Ho, Hox⟩
  iapply (wp_out_start d i tb ix (bk i ⟨k.val, hk⟩) (sl k.val) (outSlot_of _ (off12_eq ⟨k.val, by omega⟩) _)
    (outBlk_of _ (off13_eq i ⟨k.val, hk⟩) _) (outSem_of _ (off14_eq ⟨k.val, by omega⟩) _)) $$ [Hout Ho HzO]
  · isplitl [Hout]; · iexact Hout
    isplitl [Ho]; · iexact Ho
    iexact HzO
  iintro HF
  ihave HsO' := (Entails.of_eq (sOut_succ (F := F) d i tb ix hk).symm) $$ HF
  ihave Hid := (Entails.of_eq (Ring.bigSep_rangeSet_last (NB := 50) (Φ := fun k => iB d i ix (bk i k)) (Nat.succ_pos k.val) (Nat.succ_le_of_lt hk)).symm) $$ [Hid Hx]
  · isplitl [Hx]; · iexact Hx
    iexact Hid
  -- the write-out before it lands, when there is one
  by_cases h7 : k1_cond7 i k (wd k.val) = 1#1
  · have hk0 : 0 < k.val := (cond7_iff i ⟨k.val, hk⟩).mp h7
    iapply (wp_pos (F := F) d i h7)
    obtain ⟨n, hn⟩ : ∃ n, k.val = n + 1 := ⟨k.val - 1, by omega⟩
    have e16 : k1_off16 i (wd k.val) = ![128 * (bk i ⟨n, by omega⟩).val, 0] := by rw [hn]; exact off16_eq i ⟨n, by omega⟩
    have e17 : k1_off17 (wd (k.val - 1)) = ![(sl n).val] := by rw [hn]; exact off17_eq ⟨n, by omega⟩
    ihave HsO := (Entails.of_eq (show sOut d i tb ix k.val = FLout d i tb ix (bk i ⟨n, by omega⟩) (sl n) by
      rw [hn]; exact sOut_succ (F := F) d i tb ix (by omega))) $$ HsO
    iapply (wp_out_wait d i tb ix (bk i ⟨n, by omega⟩) (sl n) (bk i ⟨n, by omega⟩)
      (outBlk_of (off := k1_off16 i (wd k.val)) _ e16 _) (outSem_of (off := k1_off17 (wd (k.val - 1))) _ e17 _)) $$ [HsO HO]
    · isplitl [HsO]; · iexact HsO
      isplitl [HO]; · iexact HO
      iexact Hmw
    iintro ⟨Hob, HfO, HzO, HO⟩
    rw [wp_ret]; imodintro
    isplitr; · ipureintro; rfl
    isplitr; · iexact Hmw
    isplitl [HO]
    · iexists _; isplitr
      swap; · iexact HO
      ipureintro; exact owed_insert W (owed_insert W (owed_insert W hW₀ _) _) _
    isplitl [Ht]; · iexact Ht
    isplitl [Hg]; · iexact Hg
    isplitl [HsI']; · iexact HsI'
    isplitl [HzI HfI']
    · rw [show sl (k.val + 1 + 1) = sl k.val from sl_add_two _]
      isplitl [HzI]; · iexact HzI
      iexact HfI'
    isplitl [HsO']; · iexact HsO'
    isplitl [HzO HfO]
    · rw [show sl (k.val + 1) = sl n by rw [hn]; exact sl_add_two n]
      isplitl [HzO]; · iexact HzO
      iexact HfO
    isplitl [Hix]; · iexact Hix
    isplitl [Hid]; · iexact Hid
    isplitl [Hox]; · iexact Hox
    rw [hn, Nat.add_sub_cancel, Nat.add_sub_cancel]
    iapply (Entails.of_eq (Ring.bigSep_rangeSet_last (NB := 50) (Φ := fun k => oB d i (bk i k) (gath tb ix)) (Nat.succ_pos n) (by omega)).symm)
    isplitl [Hob]; · iexact Hob
    iexact Hod
  · have hk0 : k.val = 0 := by
      by_contra h0; exact h7 ((cond7_iff i ⟨k.val, hk⟩).mpr (by show 0 < k.val; omega))
    iapply (wp_neg (F := F) d i h7)
    ihave HsO := (Entails.of_eq (show sOut d i tb ix k.val = iprop(outZ d i (sl 1) ∗ outAny d i (sl 1)) by rw [hk0]; exact sOut_zero (F := F) d i tb ix)) $$ HsO
    icases HsO with ⟨HzO, HfO⟩
    rw [wp_ret]; imodintro
    isplitr; · ipureintro; rfl
    isplitr; · iexact Hmw
    isplitl [HO]
    · iexists _; isplitr
      swap; · iexact HO
      ipureintro; exact owed_insert W (owed_insert W hW₀ _) _
    isplitl [Ht]; · iexact Ht
    isplitl [Hg]; · iexact Hg
    isplitl [HsI']; · iexact HsI'
    isplitl [HzI HfI']
    · rw [show sl (k.val + 1 + 1) = sl k.val from sl_add_two _]
      isplitl [HzI]; · iexact HzI
      iexact HfI'
    isplitl [HsO']; · iexact HsO'
    isplitl [HzO HfO]
    · rw [show sl (k.val + 1) = sl 1 by rw [hk0]]
      isplitl [HzO]; · iexact HzO
      iexact HfO
    isplitl [Hix]; · iexact Hix
    isplitl [Hid]; · iexact Hid
    isplitl [Hox]; · iexact Hox
    iapply (Entails.of_eq (show oBs d i tb ix 0 (k.val - 1) = oBs d i tb ix 0 (k.val + 1 - 1) by rw [hk0])) $$ Hod

end Cert.Proof.Gather
-- ==== Proof.Tile.lean ====
/-
  The gather kernel on one tile: from its share of the table, its 50 blocks of the index list and its 50 blocks of the
  output at any contents, to the same with the output's blocks holding the gathered rows.
-/
module

public import proofs.«01_k».proof.Proof.Trip

@[expose] public section

noncomputable section

attribute [local irreducible] Idealize.SL.BI.bigSep

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (SparseCore.Cfg.HIx 1) (Elt F) ℕ UU ℕ

variable (d : Dev nD) (i : grid1.Coords) (tb : Tab F) (ix : Ixs F) (q : PosShare TreeShare)

/-- What a tile is handed, -/
def goT : sProp 𝕄 := iprop(tShare d i tb q ∗ (bigSep Finset.univ fun k => iB d i ix (bk i k)) ∗ bigSep Finset.univ fun k => oAny d i (bk i k))
/-- and what it hands back. -/
def tdT : sProp 𝕄 := iprop(tShare d i tb q ∗ (bigSep Finset.univ fun k => iB d i ix (bk i k)) ∗ bigSep Finset.univ fun k => oB d i (bk i k) (gath tb ix))

abbrev cin0 : GSem nD τ sig := (tt d i, .dma (inSem 0))
abbrev cin1 : GSem nD τ sig := (tt d i, .dma (inSem 1))
abbrev cout0 : GSem nD τ sig := (tt d i, .dma (outSem 0))
abbrev cout1 : GSem nD τ sig := (tt d i, .dma (outSem 1))
abbrev cg : GSem nD τ sig := (tt d i, .dma gSem)

/-- A scoped semaphore is among the tile's own. -/
theorem mem_cell (s : DmaSem sig) (h : (SemLoc.dma s : SemLoc sig).isScoped .scVector = true) :
    ((tt d i, .dma s) : GSem nD τ sig) ∈ ownCells (tt d i) := mem_ownCells.mpr ⟨rfl, h⟩
/-- Different semaphores are different cells. -/
theorem cell_ne {s s' : DmaSem sig} (h : s ≠ s') : ((tt d i, .dma s) : GSem nD τ sig) ≠ (tt d i, .dma s') := by
  intro e; apply h
  have := (Prod.mk.inj e).2
  exact SemLoc.dma.inj this

/-- The tile's own semaphores at zero are its five, and the rest. -/
theorem ownSems0_V :
    (ownSems0 (tt d i) : sProp 𝕄)
      = iprop(semVal (cin0 d i) 0 ∗ semVal (cin1 d i) 0 ∗ semVal (cout0 d i) 0 ∗ semVal (cout1 d i) 0 ∗ semVal (cg d i) 0
          ∗ bigSep ((((((ownCells (tt d i)).erase (cin0 d i)).erase (cin1 d i)).erase (cout0 d i)).erase (cout1 d i)).erase (cg d i)) fun g => semVal g 0) := by
  unfold SparseCore.Cfg.ownSems0
  rw [SparseCore.bigSep_erase' (mem_cell d i (inSem 0) (by decide)),
    SparseCore.bigSep_erase' (Finset.mem_erase.mpr ⟨cell_ne d i (by decide), mem_cell d i (inSem 1) (by decide)⟩),
    SparseCore.bigSep_erase' (Finset.mem_erase.mpr ⟨cell_ne d i (by decide), Finset.mem_erase.mpr ⟨cell_ne d i (by decide), mem_cell d i (outSem 0) (by decide)⟩⟩),
    SparseCore.bigSep_erase' (Finset.mem_erase.mpr ⟨cell_ne d i (by decide), Finset.mem_erase.mpr ⟨cell_ne d i (by decide),
      Finset.mem_erase.mpr ⟨cell_ne d i (by decide), mem_cell d i (outSem 1) (by decide)⟩⟩⟩),
    SparseCore.bigSep_erase' (Finset.mem_erase.mpr ⟨cell_ne d i (by decide), Finset.mem_erase.mpr ⟨cell_ne d i (by decide),
      Finset.mem_erase.mpr ⟨cell_ne d i (by decide), Finset.mem_erase.mpr ⟨cell_ne d i (by decide), mem_cell d i gSem (by decide)⟩⟩⟩⟩)]

/-- The tile's own buffers are its two, and the rest. -/
theorem ownBufs_V :
    (ownBufs (tt d i) : sProp 𝕄)
      = iprop((∃ f, (tt d i).loc cc1_scoped0 ↦{fullShare} f) ∗ (∃ f, (tt d i).loc cc1_scoped2 ↦{fullShare} f)
          ∗ bigSep (((ownRefs (τ := τ) (.scVector (cV i) (jV i))).erase ((Proc.scVector (cV i) (jV i)).devRef cc1_scoped0)).erase
              ((Proc.scVector (cV i) (jV i)).devRef cc1_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV i) (jV i))
    (b := (Proc.scVector (cV i) (jV i)).devRef cc1_scoped0) rfl)).trans ?_
  rw [SparseCore.bigSep_erase' (Finset.mem_erase.mpr ⟨fun e => absurd (Proc.devRef_injective _ e) (show (cc1_scoped2 : Ref sig .scVector) ≠ cc1_scoped0 by decide),
    SparseCore.Cfg.mem_ownRefs_of_owner (p := Proc.scVector (cV i) (jV i)) (b := (Proc.scVector (cV i) (jV i)).devRef cc1_scoped2) rfl⟩)]

/-- The index slots from their buffer, -/
theorem in_split : iprop(∃ f, (tt d i).loc cc1_scoped0 ↦{fullShare} f) ⊢ (iprop(inAny d i 0 ∗ inAny d i 1) : sProp 𝕄) :=
  Ring.slots2_split (ℓ := (tt d i).loc cc1_scoped0) (q := fullShare) inSlotSet in_disj in_cover (inAt d i 0) (inAt d i 1) (fun _ => rfl) (fun _ => rfl)
/-- and back; -/
theorem in_join : iprop(inAny d i 0 ∗ inAny d i 1) ⊢ (iprop(∃ f, (tt d i).loc cc1_scoped0 ↦{fullShare} f) : sProp 𝕄) :=
  Ring.slots2_join (ℓ := (tt d i).loc cc1_scoped0) (q := fullShare) inSlotSet in_disj in_cover (inAt d i 0) (inAt d i 1) (fun _ => rfl) (fun _ => rfl)
/-- the row slots from theirs, -/
theorem out_split : iprop(∃ f, (tt d i).loc cc1_scoped2 ↦{fullShare} f) ⊢ (iprop(outAny d i 0 ∗ outAny d i 1) : sProp 𝕄) :=
  Ring.slots2_split (ℓ := (tt d i).loc cc1_scoped2) (q := fullShare) outSlotSet outS_disj outS_cover (outAt d i 0) (outAt d i 1) (fun _ => rfl) (fun _ => rfl)
/-- and back. -/
theorem out_join : iprop(outAny d i 0 ∗ outAny d i 1) ⊢ (iprop(∃ f, (tt d i).loc cc1_scoped2 ↦{fullShare} f) : sProp 𝕄) :=
  Ring.slots2_join (ℓ := (tt d i).loc cc1_scoped2) (q := fullShare) outSlotSet outS_disj outS_cover (outAt d i 0) (outAt d i 1) (fun _ => rfl) (fun _ => rfl)

/-- The run of blocks from 1 on and block 0 are all of them. -/
theorem iB_head : (bigSep Finset.univ fun k => iB (F := F) d i ix (bk i k)) = iprop(iB d i ix (bk i 0) ∗ iBs d i ix 1 50) := by
  unfold iBs
  rw [← Ring.rangeSet_univ (NB := 50), Ring.bigSep_rangeSet_head (by decide) (by decide)]; rfl

/-- A check that holds is passed. -/
theorem wp_chk {P : Prop} [dec : Decidable P] (h : P) {α : Type} {Q : α → sProp (MT nD τ sig (SparseCore.Cfg.HIx 1) (Elt F) ℕ UU ℕ)}
    {k : PLift P → Prog (TpuEff nD τ sig (Elt F) Λ₀ (.scVector (cV i) (jV i))) α} :
    wp frame (wpE (defs₀ (F := F)) 𝒱₀ (tt d i) none) Set.univ (k ⟨h⟩) Q
      ⊢ wp frame (wpE (defs₀ (F := F)) 𝒱₀ (tt d i) none) Set.univ (.op (.assume P dec) k) Q :=
  wp_assume 𝒱₀ (tt d i) none Set.univ h

set_option maxHeartbeats 4000000 in
/-- The gather kernel on tile `i` of device `d`. -/
theorem tile_body (hF : (K (F := F)).Facts) (hI : ∀ x, (ix x).toNat < 500000) (O : CellTallies nD τ sig (HIx 1)) (W : Waits sig (HIx 1)) (hO : ∀ g, O g none = 0) :
    iprop(levAts (K (F := F)).L (K (F := F)).lev ∗ emp ∗ goT d i tb ix q
        ∗ scopedBufs (tt d i) ∗ scopedSems0 (tt d i) ∗ owes (tt d i) O W)
      ⊢ wp frame (wpE (defs₀ (F := F)) 𝒱₀ (tt d i) none) Set.univ
          (cc1_gather_kernel i tV (Memref.isWhole_whole _) iV (Memref.isWhole_whole _) oV (Memref.isWhole_whole _)
            sV (Memref.isWhole_whole _) cc1_scoped1 rV (Memref.isWhole_whole _) cc1_scoped3 cc1_scoped4)
          fun _ => iprop(tdT d i tb ix q ∗ scopedBufs (tt d i) ∗ scopedSems0 (tt d i)
            ∗ ∃ W', ⌜∀ p ∈ W', p ∈ W ∨ p.2 = none⌝ ∗ owes (tt d i) O W') := by
  simp only [cc1_gather_kernel_eq_skeleton]; unfold cc1_gather_kernel_skel
  simp only [k1_part3_eq_skeleton, k1_part4_eq_skeleton]; unfold k1_part3_skel k1_part4_skel
  rw [(K (F := F)).scopedBufs_V hF d (cV i) (jV i), SparseCore.Cfg.scopedSems0_V (Val := Elt F) d (cV i) (jV i), ownSems0_V, ownBufs_V]
  unfold goT tdT
  rw [iB_head]
  iintro ⟨#Hlv, -, ⟨Ht, ⟨Hx0, Hix⟩, Hox⟩, ⟨Hs, Hr, Hbufs⟩, ⟨Hz0, Hz1, Hy0, Hy1, Hg, Hsems⟩, HO⟩
  ihave #Hmw := (show levAts (K (F := F)).L (K (F := F)).lev ⊢ Transfers.MayWaits (tt d i) (none : HIx 1) O from
    (K (F := F)).mayWaits_none (thr := tt d i) hO) $$ Hlv
  ihave Hs := (in_split (F := F) d i) $$ Hs
  icases Hs with ⟨Hs0, Hs1⟩
  ihave Hr := (out_split (F := F) d i) $$ Hr
  icases Hr with ⟨Hr0, Hr1⟩
  ihave Hxs := (pointsTo_split_subset (q := q) (f := tb) (S := Finset.univ) (Finset.subset_univ (tAll).view.set)).1 $$ Ht
  icases Hxs with ⟨Ht, Htr⟩
  simp only [Prog.lift, Prog.bind_op, Prog.bind_ret, Prog.pure_eq_ret, Prog.bind_assoc]
  -- block 0's fetch starts
  iapply (wp_in_start d i ix (bk i 0) 0 (idxBlk_of _ (off2_eq i) _) (inSlot_of 0 rfl _) (inSem_of 0 rfl _)) $$ [Hx0 Hs0 Hz0]
  · isplitl [Hx0]; · iexact Hx0
    isplitl [Hs0]; · iexact Hs0
    iexact Hz0
  iintro HF
  sl_for (fun k acc => iprop(⌜acc = accAt k⌝ ∗ Core d i tb ix O W q k)) $$ [HO Ht Hg HF Hs1 Hz1 Hr0 Hy0 Hr1 Hy1 Hix Hox]
  · intro k acc
    have hk : k.val < 50 := trips_eq ▸ k.isLt
    iintro ⟨%ha, HC⟩
    rw [ha, accAt_of_lt hk]
    ihave Hw := (trip d i tb ix O W q hI k) $$ HC
    iapply (wp_mono frame _ _ fun acc' => show iprop(⌜acc' = nextW i k.val (wd (k.val + 1)) (wd k.val) (wd k.val) (wd (k.val - 1)) (wd k.val)⌝
        ∗ Core d i tb ix O W q (k.val + 1)) ⊢ (iprop(⌜acc' = accAt (k.val + 1)⌝ ∗ Core d i tb ix O W q (k.val + 1)) : sProp 𝕄) from by
      iintro ⟨%e, H⟩
      isplitr; · ipureintro; exact e.trans (next_eq i ⟨k.val, hk⟩)
      iexact H) $$ Hw
  · isplitr; · ipureintro; rfl
    unfold Core
    rw [sIn_of_lt (F := F) d i ix (k := 0) (by decide), sOut_zero]
    isplitr; · iexact Hmw
    isplitl [HO]
    · iexists _; isplitr
      swap; · iexact HO
      ipureintro; exact fun p hp => .inl hp
    isplitl [Ht]; · iexact Ht
    isplitl [Hg]; · iexact Hg
    isplitl [HF]; · iexact HF
    isplitl [Hs1 Hz1]
    · isplitl [Hz1]; · iexact Hz1
      iexact Hs1
    isplitl [Hr1 Hy1]
    · isplitl [Hy1]; · iexact Hy1
      iexact Hr1
    isplitl [Hr0 Hy0]
    · isplitl [Hy0]; · iexact Hy0
      iexact Hr0
    isplitl [Hix]; · iexact Hix
    unfold iBs oAnys oBs
    rw [Ring.bigSep_rangeSet_empty (show 0 ≤ 0 by omega), Ring.bigSep_rangeSet_empty (show 0 - 1 ≤ 0 by omega), Ring.rangeSet_univ]
    isplitr; · iempintro
    isplitl [Hox]; · iexact Hox
    iempintro
  iintro %acc ⟨%ha, HC⟩
  have ha' : acc = accAt 50 := ha.trans (congrArg accAt trips_eq)
  subst ha'
  unfold tile_body.sl.prog.cont_1
  ihave HC := (Entails.of_eq (show Core d i tb ix O W q k1_t1_loop.trips = Core d i tb ix O W q 50 by rw [trips_eq])) $$ HC
  unfold Core
  icases HC with ⟨-, ⟨%W₁, %hW₁, HO⟩, Ht, Hg, HsI, ⟨Hz1, Hs1⟩, HsO, ⟨Hy0, Hr0⟩, -, Hix, -, Hod⟩
  ihave HsI := (Entails.of_eq (sIn_of_ge (F := F) d i ix (k := 50) (by decide))) $$ HsI
  ihave HsO := (Entails.of_eq (sOut_succ (F := F) d i tb ix (k := 49) (by decide))) $$ HsO
  icases HsI with ⟨Hz0, Hs0⟩
  iapply (wp_chk d i (chk5_ok i))
  iapply (wp_chk d i chk4_ok)
  dsimp only
  iapply (wp_out_wait d i tb ix (bk i 49) (sl 49) (bk i 49) (outBlk_of (off := k1_off19 i (wd 0)) _ (off19_eq i) _)
    (outSem_of (sl 49) (show k1_off20 (wd 49) = ![(sl 49).val] from off20_eq 49) _)) $$ [HsO HO]
  · isplitl [HsO]; · iexact HsO
    isplitl [HO]; · iexact HO
    iexact Hmw
  iintro ⟨Hob, Hr1, Hy1, HO⟩
  rw [wp_ret]; imodintro
  ihave Ht := (pointsTo_split_subset (ℓ := (tV).view.loc (tt d i)) (q := q) (f := tb) (S := Finset.univ) (Finset.subset_univ (tAll).view.set)).2 $$ [Ht Htr]
  · isplitl [Ht] <;> iassumption
  isplitl [Ht Hix Hob Hod]
  · isplitl [Ht]; · iexact Ht
    isplitl [Hix]
    · iapply (Entails.of_eq (show iBs d i ix 0 50 = iprop(iB d i ix (bk i 0) ∗ iBs d i ix 1 50) by
        rw [← iB_head]; unfold iBs; rw [Ring.rangeSet_univ])) $$ Hix
    · iapply (Entails.of_eq (show iprop(oB d i (bk i 49) (gath tb ix) ∗ oBs d i tb ix 0 (50 - 1))
          = (bigSep Finset.univ fun k => oB d i (bk i k) (gath tb ix)) by
        unfold oBs
        rw [← Ring.rangeSet_univ (NB := 50), Ring.bigSep_rangeSet_last (hi := 50) (by decide) (by decide)]; rfl))
      isplitl [Hob]; · iexact Hob
      iexact Hod
  isplitl [Hs0 Hs1 Hr0 Hr1 Hbufs]
  · isplitl [Hs0 Hs1]
    · iapply (in_join (F := F) d i); isplitl [Hs0]; · iexact Hs0
      iexact Hs1
    isplitl [Hr0 Hr1]
    · iapply (out_join (F := F) d i); isplitl [Hr0]; · iexact Hr0
      iexact Hr1
    iexact Hbufs
  isplitl [Hz0 Hz1 Hy0 Hy1 Hg Hsems]
  · isplitl [Hz0]; · iexact Hz0
    isplitl [Hz1]; · iexact Hz1
    isplitl [Hy0]; · iexact Hy0
    isplitl [Hy1]; · iexact Hy1
    isplitl [Hg]; · iexact Hg
    iexact Hsems
  iexists _; isplitr
  swap; · iexact HO
  ipureintro; exact owed_insert W hW₁ _

end Cert.Proof.Gather
-- ==== Proof.Call.lean ====
/-
  The gather call: what its handshakes carry, its task and split, and the arrays as the tiles' parts.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ShareLeaves

variable {F : FTy → Type} [FloatOps F]

local notation "𝕄" => MT nD τ sig (SparseCore.Cfg.HIx 1) (Elt F) ℕ UU ℕ

/-- Tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))
/-- The coordinates of tile `s` on core `c`. -/
def cdV (c : Fin 2) (s : Fin 16) : grid1.Coords := coordsV c s
/-- Its number among the 32, and its share of the table. -/
def wN (c : Fin 2) (s : Fin 16) : Fin 32 := ⟨s.val + 16 * c.val, by omega⟩
abbrev tq (c : Fin 2) (s : Fin 16) : PosShare TreeShare := leaf 5 fullShare (wN c s)

variable (tb : Dev nD → Tab F) (ix : Dev nD → Ixs F)

/-- What SparseCore `c` is handed for its tiles, and what it hands back. -/
def stC (d : Dev nD) (c : Fin 2) : sProp 𝕄 := bigSep Finset.univ fun s : Fin 16 => goT d (cdV c s) (tb d) (ix d) (tq c s)
/-- What core `c` gives back: what its tiles do. -/
def dnC (d : Dev nD) (c : Fin 2) : sProp 𝕄 := bigSep Finset.univ fun s : Fin 16 => tdT d (cdV c s) (tb d) (ix d) (tq c s)

/-- What the call's handshakes carry. -/
def P : (K (F := F)).Pay (nD := nD) (Val := Elt F) (Name := ℕ) (U := UU) where
  st := fun q d c => match q with | 0 => stC tb ix d (Fin.cast nCore_zero c)
  dn := fun q d c => match q with | 0 => dnC tb ix d (Fin.cast nCore_zero c)
  go := fun q d c i => match q with
    | 0 => goT d (cdV (Fin.cast nCore_zero c) (Fin.cast nSub_zero i)) (tb d) (ix d) (tq (Fin.cast nCore_zero c) (Fin.cast nSub_zero i))
  td := fun q d c i => match q with
    | 0 => tdT d (cdV (Fin.cast nCore_zero c) (Fin.cast nSub_zero i)) (tb d) (ix d) (tq (Fin.cast nCore_zero c) (Fin.cast nSub_zero i))
  x := fun _ _ => iprop(emp)

/-- What a tile is given can be stored in an invariant. -/
instance goT_storable (d : Dev nD) (i : grid1.Coords) (t : Tab F) (x : Ixs F) (q : PosShare TreeShare) : BI.Storable (upEmb : UEmb _ 𝕄) (goT d i t x q) := by
  unfold goT; infer_instance
/-- What a tile gives back can be stored. -/
instance tdT_storable (d : Dev nD) (i : grid1.Coords) (t : Tab F) (x : Ixs F) (q : PosShare TreeShare) : BI.Storable (upEmb : UEmb _ 𝕄) (tdT d i t x q) := by
  unfold tdT; infer_instance
/-- What a core is given can be stored. -/
instance stC_storable (d : Dev nD) (c : Fin 2) : BI.Storable (upEmb : UEmb _ 𝕄) (stC tb ix d c) := by unfold stC; infer_instance
/-- What a core gives back can be stored. -/
instance dnC_storable (d : Dev nD) (c : Fin 2) : BI.Storable (upEmb : UEmb _ 𝕄) (dnC tb ix d c) := by unfold dnC; infer_instance

/-- What a core is given, over the call's own count of tiles. -/
theorem stC_eq (d : Dev nD) (c : Fin 2) : stC tb ix d c = bigSep Finset.univ fun i : Fin ((K (F := F)).nSub 0) =>
    goT d (cdV c (Fin.cast nSub_zero i)) (tb d) (ix d) (tq c (Fin.cast nSub_zero i)) := rfl
/-- What a core gives back, over the call's own count of tiles. -/
theorem dnC_eq (d : Dev nD) (c : Fin 2) : dnC tb ix d c = bigSep Finset.univ fun i : Fin ((K (F := F)).nSub 0) =>
    tdT d (cdV c (Fin.cast nSub_zero i)) (tb d) (ix d) (tq c (Fin.cast nSub_zero i)) := rfl

section Sealed
attribute [local irreducible] stC dnC goT tdT Idealize.SL.BI.bigSep

/-- All that the handshakes carry can be stored. -/
instance P_storable : (P (F := F) tb ix).IsStorable where
  st q d c := match q with | 0 => (inferInstance : BI.Storable (upEmb : UEmb _ 𝕄) (stC tb ix d (Fin.cast nCore_zero c)))
  dn q d c := match q with | 0 => (inferInstance : BI.Storable (upEmb : UEmb _ 𝕄) (dnC tb ix d (Fin.cast nCore_zero c)))
  go q d c i := match q with
    | 0 => (inferInstance : BI.Storable (upEmb : UEmb _ 𝕄) (goT d (cdV (Fin.cast nCore_zero c) (Fin.cast nSub_zero i)) (tb d) (ix d) (tq (Fin.cast nCore_zero c) (Fin.cast nSub_zero i))))
  td q d c i := match q with
    | 0 => (inferInstance : BI.Storable (upEmb : UEmb _ 𝕄) (tdT d (cdV (Fin.cast nCore_zero c) (Fin.cast nSub_zero i)) (tb d) (ix d) (tq (Fin.cast nCore_zero c) (Fin.cast nSub_zero i))))

/-- The body that a tile runs is the gather kernel at its coordinates. -/
theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _)
          sV (Memref.isWhole_whole _) cc1_scoped1 rV (Memref.isWhole_whole _) cc1_scoped3 cc1_scoped4) ⟨⟩ c s := rfl

/-- Waits that were the tile's or none are also the tile's, none or the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile, given its blocks, ends with its output blocks gathered. -/
theorem tileObl (hF : (K (F := F)).Facts) (hI : ∀ d x, (ix d x).toNat < 500000) : (K (F := F)).TileObl (D (F := F)) 𝒱 (P tb ix) v₀ 0 := by
  intro d c i O W hO _ _
  simp only [show (P tb ix).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tb d) (ix d) (tq (Fin.cast nCore_zero c) (Fin.cast nSub_zero i)) hF (hI d) O W hO).trans
    (wp_mono frame _ _ fun _ => obl_post)

/-- What a core is given splits among its tiles, and what they give back makes up the core's. -/
theorem vecSplit : (K (F := F)).VecSplit' (P tb ix) 0 := by
  intro d c
  show stC tb ix d (Fin.cast nCore_zero c) ⊢ |={Set.univ}=> iprop(
      (bigSep Finset.univ fun i : Fin ((K (F := F)).nSub 0) =>
        goT d (cdV (Fin.cast nCore_zero c) (Fin.cast nSub_zero i)) (tb d) (ix d) (tq (Fin.cast nCore_zero c) (Fin.cast nSub_zero i)))
      ∗ ((bigSep Finset.univ fun i : Fin ((K (F := F)).nSub 0) =>
          tdT d (cdV (Fin.cast nCore_zero c) (Fin.cast nSub_zero i)) (tb d) (ix d) (tq (Fin.cast nCore_zero c) (Fin.cast nSub_zero i)))
          -∗ dnC tb ix d (Fin.cast nCore_zero c)))
  rw [stC_eq, dnC_eq]
  iintro H; imodintro
  isplitl [H]; · iexact H
  iintro H; iexact H

/-- What the call gives back, over two cores. -/
theorem dn_eq (d : Dev nD) :
    (bigSep Finset.univ fun c : Fin ((K (F := F)).nCore 0) => (P tb ix).dn 0 d c) = bigSep Finset.univ fun c : Fin 2 => dnC tb ix d c := rfl
/-- What the call is given, over two cores. -/
theorem st_eq (d : Dev nD) :
    (bigSep Finset.univ fun c : Fin ((K (F := F)).nCore 0) => (P tb ix).st 0 d c) = bigSep Finset.univ fun c : Fin 2 => stC tb ix d c := rfl

end Sealed

/-! ## The arrays as the tiles' parts -/

abbrev tLoc (d : Dev nD) : Loc nD τ sig := (SparseCore.T d).loc main_v8
abbrev iLoc (d : Dev nD) : Loc nD τ sig := (SparseCore.T d).loc main_v4
abbrev oLoc (d : Dev nD) : Loc nD τ sig := (SparseCore.T d).loc main_v9

/-- A product over cores and tiles is one over 32 tiles. -/
theorem reidx (Φ : Fin 32 → sProp 𝕄) :
    (bigSep Finset.univ fun c : Fin 2 => bigSep Finset.univ fun s : Fin 16 => Φ (wN c s)) = bigSep Finset.univ Φ := by
  rw [bigSep_univ_equiv (finProdFinEquiv : Fin 2 × Fin 16 ≃ Fin 32) Φ, bigSep_univ_prod]
  rfl
/-- A product over cores, tiles and steps is one over 1600 blocks. -/
theorem reidxB (Φ : Fin 1600 → sProp 𝕄) :
    (bigSep Finset.univ fun c : Fin 2 => bigSep Finset.univ fun s : Fin 16 => bigSep Finset.univ fun k : Fin 50 => Φ (bk (cdV c s) k))
      = bigSep Finset.univ Φ := by
  rw [bigSep_univ_equiv (finProdFinEquiv : Fin 32 × Fin 50 ≃ Fin 1600) Φ, bigSep_univ_prod, ← reidx]
  refine bigSep_congr fun c _ => bigSep_congr fun s _ => bigSep_congr fun k _ => congrArg Φ (Fin.ext ?_)
  show 50 * (s.val + 16 * c.val) + k.val = k.val + 50 * (s.val + 16 * c.val)
  omega

/-- The tiles' shares of the table make up the table. -/
theorem tabs_eq (d : Dev nD) (t : Tab F) :
    (bigSep Finset.univ fun c : Fin 2 => bigSep Finset.univ fun s : Fin 16 => tShare d (cdV c s) t (tq c s)) = (tLoc d ↦{fullShare} t : sProp 𝕄) := by
  exact (reidx (fun w => (tLoc d ↦{leaf 5 fullShare w} t : sProp 𝕄))).trans (pointsTo_leaves (ℓ := tLoc d) Finset.univ t 5 fullShare).symm
/-- The tiles' index blocks make up the list. -/
theorem idxs_eq (d : Dev nD) (x : Ixs F) :
    (bigSep Finset.univ fun c : Fin 2 => bigSep Finset.univ fun s : Fin 16 => bigSep Finset.univ fun k => iB d (cdV c s) x (bk (cdV c s) k))
      = (iLoc d ↦{fullShare} x : sProp 𝕄) := by
  rw [Ring.pointsTo_blocks (ℓ := iLoc d) idxBlkSet idx_disj idx_cover x]
  exact reidxB (fun b => (iLoc d ↦[idxBlkSet b]{fullShare} x : sProp 𝕄))
/-- The tiles' output blocks make up the output. -/
theorem outs_eq (d : Dev nD) (f : S204800x128.Idx → Elt F .f32) :
    (bigSep Finset.univ fun c : Fin 2 => bigSep Finset.univ fun s : Fin 16 => bigSep Finset.univ fun k => oB d (cdV c s) (bk (cdV c s) k) f)
      = (oLoc d ↦{fullShare} f : sProp 𝕄) := by
  rw [Ring.pointsTo_blocks (ℓ := oLoc d) outBlkSet out_disj out_cover f]
  exact reidxB (fun b => (oLoc d ↦[outBlkSet b]{fullShare} f : sProp 𝕄))

/-- The call gives back the table, the list, and the output with the gathered rows. -/
theorem dn0 (d : Dev nD) :
    (bigSep Finset.univ fun c : Fin ((K (F := F)).nCore 0) => (P tb ix).dn 0 d c)
      = iprop((tLoc d ↦{fullShare} tb d) ∗ (iLoc d ↦{fullShare} ix d) ∗ oLoc d ↦{fullShare} gath (tb d) (ix d)) := by
  rw [dn_eq]
  unfold dnC tdT
  simp only [bigSep_sep']
  rw [tabs_eq, idxs_eq, outs_eq]

/-- Blocks of known contents are blocks of some contents. -/
theorem outs_any (d : Dev nD) (f : S204800x128.Idx → Elt F .f32) :
    (bigSep Finset.univ fun c : Fin 2 => bigSep Finset.univ fun s : Fin 16 => bigSep Finset.univ fun k => oB d (cdV c s) (bk (cdV c s) k) f)
      ⊢ (bigSep Finset.univ fun c : Fin 2 => bigSep Finset.univ fun s : Fin 16 => bigSep Finset.univ fun k => oAny d (cdV c s) (bk (cdV c s) k) : sProp 𝕄) :=
  bigSep_mono fun c _ => bigSep_mono fun s _ => bigSep_mono fun k _ => by
    show _ ⊢ iprop(∃ f, oB d (cdV c s) (bk (cdV c s) k) f)
    iintro H; iexists f; iexact H

/-- The table, the list and the output are what the call is given. -/
theorem st0 (d : Dev nD) :
    iprop((tLoc d ↦{fullShare} tb d) ∗ (iLoc d ↦{fullShare} ix d) ∗ ∃ f, oLoc d ↦{fullShare} f)
      ⊢ bigSep Finset.univ fun c : Fin ((K (F := F)).nCore 0) => (P tb ix).st 0 d c := by
  rw [st_eq]
  unfold stC goT
  simp only [bigSep_sep']
  rw [tabs_eq, idxs_eq]
  iintro ⟨Ht, Hi, %f, Ho⟩
  isplitl [Ht]; · iexact Ht
  isplitl [Hi]; · iexact Hi
  ihave Ho := (Entails.of_eq (outs_eq d f).symm) $$ Ho
  iapply (outs_any d f) $$ Ho

end Cert.Proof.Gather
-- ==== Proof.Host.lean ====
/-
  The host operations of the program, and what every array holds between its calls.
-/
module

public import proofs.«01_k».proof.Proof.Region
public import proofs.«01_k».proof.Proof.Call
public import Idealize.ShloMosaic.Lib.StableHlo.RunRead

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The host operations before the first call. -/
abbrev ops0 : List (HloOp τ sig (Elt F)) :=
  [StableHlo.reshape main_arg0 main_v0 (rfl : (.i32 : EltTy) = .i32) shapeCasts_S4096x50_S16x256x50,
   StableHlo.unary main_v0 main_v1 ((transpose S16x50x256 [0, 2, 1] · transposes_S16x256x50_S16x50x256_0_2_1) : (⟨S16x256x50, .i32⟩ : BufTy).Contents (Elt F) → (⟨S16x50x256, .i32⟩ : BufTy).Contents (Elt F)),
   StableHlo.reshape main_v1 main_v2 (rfl : (.i32 : EltTy) = .i32) shapeCasts_S16x50x256_S1x204800,
   StableHlo.nullary main_c (constantI S_ 32 1#32),
   StableHlo.unary main_c main_v3 (broadcastInDim S1x204800 ![] bcast_S_S1x204800 : (⟨S_, .i32⟩ : BufTy).Contents (Elt F) → (⟨S1x204800, .i32⟩ : BufTy).Contents (Elt F)),
   StableHlo.binary main_v2 main_v3 main_v4 (Host.shrsi : (⟨S1x204800, .i32⟩ : BufTy).Contents (Elt F) → (⟨S1x204800, .i32⟩ : BufTy).Contents (Elt F) → (⟨S1x204800, .i32⟩ : BufTy).Contents (Elt F)),
   StableHlo.nullary main_c_0 (constantI S_ 32 1#32),
   StableHlo.unary main_c_0 main_v5 (broadcastInDim S4096x50 ![] bcast_S_S4096x50 : (⟨S_, .i32⟩ : BufTy).Contents (Elt F) → (⟨S4096x50, .i32⟩ : BufTy).Contents (Elt F)),
   StableHlo.binary main_arg0 main_v5 main_v6 (andi : (⟨S4096x50, .i32⟩ : BufTy).Contents (Elt F) → (⟨S4096x50, .i32⟩ : BufTy).Contents (Elt F) → (⟨S4096x50, .i32⟩ : BufTy).Contents (Elt F)),
   StableHlo.nullary main_c_1 (constantI S_ 32 0#32),
   StableHlo.TRef.unary (Tx := ⟨S_, .i32⟩) (Ty := ⟨S_, .i32⟩) (.of main_c_1) (.of main_call0_v0) id,
   StableHlo.TRef.binary (Ta := ⟨S4096x50, .i32⟩) (Tb := ⟨S_, .i32⟩) (Ty := ⟨S4096x64, .i32⟩) (.of main_v6) (.of main_call0_v0) (.of main_v7) (fun x v => pad S4096x64 ![0, 0] ![0, 14] ![0, 0] x v pads_S4096x50_S4096x64_000_0140 h_S_)]

/-- The host operations between the gather and the MLP. -/
abbrev ops1 : List (HloOp τ sig (Elt F)) :=
  [StableHlo.unary main_arg1 main_v10 ((extractStridedSlice S1x64 ![0, 0] · slices_S1000000x64_S1x64_0_0) : (⟨S1000000x64, .f32⟩ : BufTy).Contents (Elt F) → (⟨S1x64, .f32⟩ : BufTy).Contents (Elt F)),
   StableHlo.unary main_arg2 main_v11 ((truncf .bf16 · bitsLt_bf16_f32) : (⟨S3328x1024, .f32⟩ : BufTy).Contents (Elt F) → (⟨S3328x1024, .bf16⟩ : BufTy).Contents (Elt F)),
   StableHlo.unary main_arg4 main_v12 ((truncf .bf16 · bitsLt_bf16_f32) : (⟨S1024x1000, .f32⟩ : BufTy).Contents (Elt F) → (⟨S1024x1000, .bf16⟩ : BufTy).Contents (Elt F)),
   StableHlo.reshape main_arg3 main_v13 (rfl : (.f32 : EltTy) = .f32) shapeCasts_S1024_S1x1024,
   StableHlo.reshape main_arg5 main_v14 (rfl : (.f32 : EltTy) = .f32) shapeCasts_S1000_S1x1000]

/-- The program: host operations, the repack, the gather, host operations, the MLP. -/
theorem main_eq (d : Dev nD) : main (F := F) d =
    (StableHlo.seq ops0 >>= fun _ => Prog.lift (.customCall (SparseCore.inner (Pipeline.entry 0)) ()) >>= fun _ =>
      sc.run d 0 >>= fun _ => StableHlo.seq ops1 >>= fun _ =>
      Prog.lift (.customCall (SparseCore.inner (Pipeline.entry 1)) ()) >>= fun _ => pure ⟨⟩) := by
  simp only [main, fn_pad.body, StableHlo.seq, bind_assoc, pure_bind]

/-- The TensorCore's unscoped buffers: what the host operations run within. -/
def hostRefs : Finset (DevRef τ sig) := (StableHlo.tcRefs τ sig).filter fun b => ¬ b.isScoped

/-- The launch's unscoped buffers at a valuation are those buffers held at it. -/
theorem unscoped_held (c : Dev nD) (W : Valuation τ sig (Elt F)) :
    (unscopedBufs c (fun b => W b) : sProp 𝕄) = StableHlo.held (c : Thread nD τ) hostRefs W := by
  unfold unscopedBufs StableHlo.held hostRefs StableHlo.tcRefs
  rw [Finset.filter_map, bigSep_map]
  rfl

/-- An operation on the TensorCore's arrays touches only what the host holds. -/
theorem sub_hostRefs (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

/-- The operations before the gather touch only what the host holds. -/
theorem ops0_sub : ∀ op ∈ (ops0 (F := F)), op.bufs ⊆ hostRefs := by
  intro op hop
  refine sub_hostRefs op ?_
  simp only [List.mem_cons, List.mem_nil_iff, or_false] at hop
  rcases hop with rfl | rfl | rfl | rfl | rfl | rfl | rfl | rfl | rfl | rfl | rfl | rfl <;>
    (intro b hb; simp only [StableHlo.reshape_bufs, StableHlo.unary_bufs, StableHlo.binary_bufs, StableHlo.nullary_bufs, Finset.mem_insert, Finset.mem_singleton] at hb
     rcases hb with rfl | rfl | rfl <;> exact StableHlo.devRef_mem_tcRefs _)

/-- The operations after the gather touch only what the host holds. -/
theorem ops1_sub : ∀ op ∈ (ops1 (F := F)), op.bufs ⊆ hostRefs := by
  intro op hop
  refine sub_hostRefs op ?_
  simp only [List.mem_cons, List.mem_nil_iff, or_false] at hop
  rcases hop with rfl | rfl | rfl | rfl | rfl <;>
    (intro b hb; simp only [StableHlo.reshape_bufs, StableHlo.unary_bufs, Finset.mem_insert, Finset.mem_singleton] at hb
     rcases hb with rfl | rfl <;> exact StableHlo.devRef_mem_tcRefs _)

/-- The operations before the gather take no new buffer. -/
theorem ops0_fresh : ∀ op ∈ (ops0 (F := F)), op.fresh = ∅ := by
  intro _ h; (repeat (cases h with | head => rfl | tail _ h => ?_)); exact nomatch h

/-- The operations after the gather take no new buffer. -/
theorem ops1_fresh : ∀ op ∈ (ops1 (F := F)), op.fresh = ∅ := by
  intro _ h; (repeat (cases h with | head => rfl | tail _ h => ?_)); exact nomatch h

section Vals

variable (m : (ℓ : Loc nD τ sig) → Buf (Elt F) ℓ)

/-- Core `d`'s buffers at launch. -/
def W0 (d : Dev nD) : Valuation τ sig (Elt F) := fun b => m ((d : Dev nD), b)
/-- Before the repack. -/
def W1 (d : Dev nD) : Valuation τ sig (Elt F) := StableHlo.after ops0 (W0 m d)
/-- After the repack. -/
def W2 (d : Dev nD) : Valuation τ sig (Elt F) :=
  Function.update (W1 m d) (Proc.devRef .tc main_v8) (packT (W1 m d (Proc.devRef .tc main_arg1)))
/-- After the gather. -/
def W3 (d : Dev nD) : Valuation τ sig (Elt F) :=
  Function.update (W2 m d) (Proc.devRef .tc main_v9) (gath (W2 m d (Proc.devRef .tc main_v8)) (W2 m d (Proc.devRef .tc main_v4)))
/-- Before the MLP. -/
def W4 (d : Dev nD) : Valuation τ sig (Elt F) := StableHlo.after ops1 (W3 m d)
/-- After the MLP. -/
def W5 (d : Dev nD) : Valuation τ sig (Elt F) :=
  Function.update (W4 m d) (Proc.devRef .tc main_v15)
    (mlpT (W4 m d (Proc.devRef .tc main_v9)) (W4 m d (Proc.devRef .tc main_v7)) (W4 m d (Proc.devRef .tc main_v10)) (W4 m d (Proc.devRef .tc main_v11))
      (W4 m d (Proc.devRef .tc main_v13)) (W4 m d (Proc.devRef .tc main_v12)) (W4 m d (Proc.devRef .tc main_v14)))

end Vals

end Cert.Proof.Gather
-- ==== Proof.Main.lean ====
/-
  The program on the TensorCore: its two regions, the gather call and the host operations run in order.
-/
module

public import proofs.«01_k».proof.Proof.Host

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.Rounds

section Main

variable (m : (ℓ : Loc nD τ sig) → Buf (Elt F) ℓ) (ρ : Dev nD → PrngReg)

/-- A finished program owes its postcondition only. -/
theorem done_ret (d : Dev nD) (Q : PUnit → sProp 𝕄) :
    Q ⟨⟩ ⊢ wp frame (wpE (D (F := F)) 𝒱 (SparseCore.T d) none) Set.univ (.ret ⟨⟩) Q := by
  iintro H
  rw [wp_ret]
  imodintro
  iexact H

/-- Region 0 as a call in the program: the buffers go from `W1` to `W2`, the debts before call 0 stay bounded. -/
theorem region0 (d : Dev nD) (Q : PUnit → sProp 𝕄) :
    iprop(levAts (K (F := F)).L (K (F := F)).lev ∗ boundary (SparseCore.T d) ∗ StableHlo.held (SparseCore.T d) hostRefs (W1 m d) ∗ debts (F := F) d 0
        ∗ Pipeline.cellsGhost cfgs EP 0 d ∗ Pipeline.toksInit cfgs EP 0 d
        ∗ (iprop(boundary (SparseCore.T d) ∗ StableHlo.held (SparseCore.T d) hostRefs (W2 m d) ∗ debts (F := F) d 0) -∗ Q ⟨⟩))
      ⊢ wp frame (wpE ((K (F := F)).defs (D (F := F))) 𝒱 (SparseCore.T d) none) Set.univ
          (Prog.lift (.customCall (SparseCore.inner (Pipeline.entry 0)) ())) Q := by
  have hne : ∀ (c : Dev nD) (b : Ref sig .tc), b ≠ main_v8 → W2 m c (Proc.devRef .tc b) = W1 m c (Proc.devRef .tc b) := fun c b hb => by
    unfold W2; exact Function.update_of_ne (StableHlo.devRef_ne_of_ne hb) _ _
  let R := reg0 (F := F) (fun c b => W1 m c (Proc.devRef .tc b)) (fun c b => W4 m c (Proc.devRef .tc b)) (fun c b => W2 m c (Proc.devRef .tc b))
    (fun c => by unfold W2; exact Function.update_self _ _ _) hne
  have hR := Pipeline.RegionSeg.wp (pcfgs (F := F)) adm (pdats (fun c b => W1 m c (Proc.devRef .tc b)) (fun c b => W4 m c (Proc.devRef .tc b)))
    none cellOf_inj EP defs₀ 𝒱₀ (K (F := F)).L (K (F := F)).lev R d none (fun _ h => nomatch h) (fun r => .ret r) Q
  iintro ⟨Hlev, Hb, Hh, HO, Hg, Ht, Hk⟩
  iapply ((K (F := F)).wp_liftProg (D (F := F)) 𝒱 (SparseCore.T d) Set.univ none (.op (.customCall (Pipeline.entry 0) ()) fun r => .ret r) Q)
  iapply hR
  isplitl [Hk]
  · iintro ⟨Hb, Hpost⟩
    ihave Hpost := (Entails.of_eq (show R.post d = iprop(unscopedBufs d (fun b => W2 m d (Proc.devRef .tc b)) ∗ debts (F := F) d 0) from rfl)) $$ Hpost
    icases Hpost with ⟨Hu, HO⟩
    ihave Hh := (Entails.of_eq (unscoped_held d (W2 m d))) $$ Hu
    iapply (done_ret d Q)
    iapply Hk
    isplitl [Hb]; · iexact Hb
    isplitl [Hh]; · iexact Hh
    iexact HO
  isplitl [Hb]; · iexact Hb
  isplitl [Hh HO]
  · iapply (Entails.of_eq (show iprop(unscopedBufs d (fun b => W1 m d (Proc.devRef .tc b)) ∗ debts (F := F) d 0) = R.pre d from rfl))
    isplitl [Hh]
    · iapply (Entails.of_eq (unscoped_held d (W1 m d)).symm); iexact Hh
    iexact HO
  isplitl [Hlev]; · iexact Hlev
  isplitl [Hg]; · iexact Hg
  iexact Ht

/-- Region 1 as a call in the program: the buffers go from `W4` to `W5`, the debts before call 1 stay bounded. -/
theorem region1 (d : Dev nD) (Q : PUnit → sProp 𝕄) :
    iprop(levAts (K (F := F)).L (K (F := F)).lev ∗ boundary (SparseCore.T d) ∗ StableHlo.held (SparseCore.T d) hostRefs (W4 m d) ∗ debts (F := F) d 1
        ∗ Pipeline.cellsGhost cfgs EP 1 d ∗ Pipeline.toksInit cfgs EP 1 d
        ∗ (iprop(boundary (SparseCore.T d) ∗ StableHlo.held (SparseCore.T d) hostRefs (W5 m d) ∗ debts (F := F) d 1) -∗ Q ⟨⟩))
      ⊢ wp frame (wpE ((K (F := F)).defs (D (F := F))) 𝒱 (SparseCore.T d) none) Set.univ
          (Prog.lift (.customCall (SparseCore.inner (Pipeline.entry 1)) ())) Q := by
  have hne : ∀ (c : Dev nD) (b : Ref sig .tc), b ≠ main_v15 → W5 m c (Proc.devRef .tc b) = W4 m c (Proc.devRef .tc b) := fun c b hb => by
    unfold W5; exact Function.update_of_ne (StableHlo.devRef_ne_of_ne hb) _ _
  let R := reg1 (F := F) (fun c b => W1 m c (Proc.devRef .tc b)) (fun c b => W4 m c (Proc.devRef .tc b)) (fun c b => W5 m c (Proc.devRef .tc b))
    (fun c => by unfold W5; exact Function.update_self _ _ _) hne
  have hR := Pipeline.RegionSeg.wp (pcfgs (F := F)) adm (pdats (fun c b => W1 m c (Proc.devRef .tc b)) (fun c b => W4 m c (Proc.devRef .tc b)))
    none cellOf_inj EP defs₀ 𝒱₀ (K (F := F)).L (K (F := F)).lev R d none (fun _ h => nomatch h) (fun r => .ret r) Q
  iintro ⟨Hlev, Hb, Hh, HO, Hg, Ht, Hk⟩
  iapply ((K (F := F)).wp_liftProg (D (F := F)) 𝒱 (SparseCore.T d) Set.univ none (.op (.customCall (Pipeline.entry 1) ()) fun r => .ret r) Q)
  iapply hR
  isplitl [Hk]
  · iintro ⟨Hb, Hpost⟩
    ihave Hpost := (Entails.of_eq (show R.post d = iprop(unscopedBufs d (fun b => W5 m d (Proc.devRef .tc b)) ∗ debts (F := F) d 1) from rfl)) $$ Hpost
    icases Hpost with ⟨Hu, HO⟩
    ihave Hh := (Entails.of_eq (unscoped_held d (W5 m d))) $$ Hu
    iapply (done_ret d Q)
    iapply Hk
    isplitl [Hb]; · iexact Hb
    isplitl [Hh]; · iexact Hh
    iexact HO
  isplitl [Hb]; · iexact Hb
  isplitl [Hh HO]
  · iapply (Entails.of_eq (show iprop(unscopedBufs d (fun b => W4 m d (Proc.devRef .tc b)) ∗ debts (F := F) d 1) = R.pre d from rfl))
    isplitl [Hh]
    · iapply (Entails.of_eq (unscoped_held d (W4 m d)).symm); iexact Hh
    iexact HO
  isplitl [Hlev]; · iexact Hlev
  isplitl [Hg]; · iexact Hg
  iexact Ht

/-- The gather's table and its row numbers. -/
abbrev tabs (d : Dev nD) : Tab F := W2 m d (Proc.devRef .tc main_v8)
abbrev nums (d : Dev nD) : Ixs F := W2 m d (Proc.devRef .tc main_v4)

/-- The three buffers the gather touches. -/
abbrev trio : Finset (DevRef τ sig) := {Proc.devRef .tc main_v8, Proc.devRef .tc main_v4, Proc.devRef .tc main_v9}

/-- The gather's three buffers are among those the host holds. -/
theorem trio_sub : trio ⊆ hostRefs := by
  intro b hb
  simp only [Finset.mem_insert, Finset.mem_singleton] at hb
  rcases hb with rfl | rfl | rfl <;> exact Finset.mem_filter.mpr ⟨StableHlo.devRef_mem_tcRefs _, by decide⟩

/-- They are those three held. -/
theorem held_trio (d : Dev nD) (W : Valuation τ sig (Elt F)) :
    (StableHlo.held (SparseCore.T d) trio W : sProp 𝕄)
      = iprop((tLoc d ↦{fullShare} W (Proc.devRef .tc main_v8)) ∗ (iLoc d ↦{fullShare} W (Proc.devRef .tc main_v4)) ∗ (oLoc d ↦{fullShare} W (Proc.devRef .tc main_v9))) := by
  unfold StableHlo.held
  rw [SparseCore.bigSep_insert' (by decide), SparseCore.bigSep_insert' (by decide), bigSep_singleton]

/-- The gather as a call in the program: the buffers go from `W2` to `W3`. -/
theorem call (κ : GSem nD τ sig → ℕ) (d : Dev nD) (Q : PUnit → sProp 𝕄) :
    iprop((K (F := F)).ctx EH (P (tabs m) (nums m)) κ ∗ (K (F := F)).tcSt EH d 0 ∗ StableHlo.held (SparseCore.T d) hostRefs (W2 m d)
        ∗ (iprop((K (F := F)).tcSt EH d 1 ∗ StableHlo.held (SparseCore.T d) hostRefs (W3 m d)) -∗ Q ⟨⟩))
      ⊢ wp frame (wpE ((K (F := F)).defs (D (F := F))) 𝒱 (SparseCore.T d) none) Set.univ (sc.run d 0) Q := by
  have h2 := (StableHlo.held_sub_split (SparseCore.T d) trio_sub (W2 m d) : (StableHlo.held (SparseCore.T d) hostRefs (W2 m d) : sProp 𝕄) = _)
  have h3 := (StableHlo.held_sub_split (SparseCore.T d) trio_sub (W3 m d) : (StableHlo.held (SparseCore.T d) hostRefs (W3 m d) : sProp 𝕄) = _)
  have hrest : (StableHlo.held (SparseCore.T d) (hostRefs \ trio) (W2 m d) : sProp 𝕄) = StableHlo.held (SparseCore.T d) (hostRefs \ trio) (W3 m d) :=
    StableHlo.held_congr (SparseCore.T d) fun b hb => by
      unfold W3
      refine (Function.update_of_ne (fun e => ?_) _ _).symm
      refine (Finset.mem_sdiff.mp hb).2 (e ▸ ?_)
      simp
  have e8 : W3 m d (Proc.devRef .tc main_v8) = tabs m d := by
    unfold W3; exact Function.update_of_ne (StableHlo.devRef_ne_of_ne (by decide)) _ _
  have e4 : W3 m d (Proc.devRef .tc main_v4) = nums m d := by
    unfold W3; exact Function.update_of_ne (StableHlo.devRef_ne_of_ne (by decide)) _ _
  have e9 : W3 m d (Proc.devRef .tc main_v9) = gath (tabs m d) (nums m d) := by
    unfold W3; exact Function.update_self _ _ _
  iintro ⟨Hctx, Hst, Hh, Hk⟩
  ihave Hh := (Entails.of_eq h2) $$ Hh
  icases Hh with ⟨Ht, Hrest⟩
  ihave Ht := (Entails.of_eq (held_trio d (W2 m d))) $$ Ht
  icases Ht with ⟨H8, H4, H9⟩
  iapply ((K (F := F)).wp_run (D (F := F)) 𝒱 (EH := EH) (P := P (tabs m) (nums m)) κ d 0)
  isplitl [Hctx]; · iexact Hctx
  isplitl [Hst]; · iexact Hst
  isplitl [H8 H4 H9]
  · iapply (st0 (tabs m) (nums m) d)
    isplitl [H8]; · iexact H8
    isplitl [H4]; · iexact H4
    iexists _; iexact H9
  iintro ⟨Hst, Hdn⟩
  ihave Hdn := (Entails.of_eq (dn0 (tabs m) (nums m) d)) $$ Hdn
  icases Hdn with ⟨H8, H4, H9⟩
  iapply Hk
  isplitl [Hst]; · iexact Hst
  iapply (Entails.of_eq h3.symm)
  isplitl [H8 H4 H9]
  · iapply (Entails.of_eq (held_trio d (W3 m d)).symm)
    rw [e8, e4, e9]
    isplitl [H8]; · iexact H8
    isplitl [H4]; · iexact H4
    iexact H9
  iapply (Entails.of_eq hrest); iexact Hrest

/-- What the launch deals core `d` for the two pipelines. -/
abbrev GG (d : Dev nD) : sProp 𝕄 :=
  iprop((bigSep Finset.univ fun p => Pipeline.cellsGhost cfgs EP p d) ∗ (bigSep Finset.univ fun p => Pipeline.toksInit cfgs EP p d))

/-- What is left of the buffers at the end. -/
abbrev FIN (d : Dev nD) : sProp 𝕄 := StableHlo.held (SparseCore.T d) hostRefs (W5 m d)

/-- The TensorCore's state before call `n`: its debts, and what the handshakes keep. -/
def keeps (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))

/-- What the TensorCore has before call `n` is its debts and what it keeps. -/
theorem tcSt_eq (d : Dev nD) (n : ℕ) : ((K (F := F)).tcSt EH d n : sProp 𝕄) = iprop(debts (F := F) d n ∗ keeps (F := F) d n) := rfl

/-- A program in sequence runs its first part, then the rest. -/
theorem wp_bindI (d : Dev nD) {α β : Type} (p : Prog (TpuEff nD τ sig (Elt F) (SparseCore.Sig (ΛP (F := F)) 1) .tc) α)
    (k : α → Prog (TpuEff nD τ sig (Elt F) (SparseCore.Sig (ΛP (F := F)) 1) .tc) β) (Q : β → sProp 𝕄) :
    wp frame (wpE ((K (F := F)).defs (D (F := F))) 𝒱 (SparseCore.T d) none) Set.univ p
        (fun a => wp frame (wpE ((K (F := F)).defs (D (F := F))) 𝒱 (SparseCore.T d) none) Set.univ (k a) Q)
      ⊢ wp frame (wpE ((K (F := F)).defs (D (F := F))) 𝒱 (SparseCore.T d) none) Set.univ (p >>= k) Q :=
  Entails.of_eq (by rw [wp_bind])

/-- A finished main program owes its postcondition only. -/
theorem wp_doneI (d : Dev nD) (Q : PUnit → sProp 𝕄) :
    Q ⟨⟩ ⊢ wp frame (wpE ((K (F := F)).defs (D (F := F))) 𝒱 (SparseCore.T d) none) Set.univ (pure ⟨⟩) Q := by
  rw [wp_pure]
  iintro H
  imodintro
  iexact H

/-- The program on device `d`'s TensorCore. -/
theorem hmain (κ : GSem nD τ sig → ℕ) (d : Dev nD) :
    iprop((K (F := F)).ctx EH (P (tabs m) (nums m)) κ ∗ (K (F := F)).tcSt EH d 0 ∗ (K (F := F)).tcRes m ρ d ∗ GG d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd GG
  rw [bigSep_univ_two, bigSep_univ_two]
  iintro ⟨#Hctx, Hst, ⟨Hb, Hu, Hts, -⟩, ⟨⟨Hg0, Hg1⟩, Ht0, Ht1⟩⟩
  ihave Hh := (Entails.of_eq (show (unscopedBufs d (fun b => m ((SparseCore.T d).loc b)) : sProp 𝕄) = StableHlo.held (SparseCore.T d) hostRefs (W0 m d) from unscoped_held d (W0 m d))) $$ Hu
  ihave #Hlev := ((K (F := F)).ctx_levAts (EH := EH) (P := P (tabs m) (nums m)) κ) $$ Hctx
  ihave Hs := (StableHlo.wp_seq (defs := (K (F := F)).defs (D (F := F))) (𝒱 := 𝒱) (bd := none) (E := Set.univ) d hostRefs _ ops0 ops0_sub ops0_fresh (W0 m d)) $$ [Hb Hh]
  · isplitl [Hb] <;> iassumption
  iapply Hs
  iintro ⟨Hb, Hh⟩
  ihave Hh := (Entails.of_eq (show (StableHlo.held (SparseCore.T d) hostRefs (StableHlo.after ops0 (W0 m d)) : sProp 𝕄) = StableHlo.held (SparseCore.T d) hostRefs (W1 m d) from rfl)) $$ Hh
  ihave Hst := (Entails.of_eq (tcSt_eq d 0)) $$ Hst
  icases Hst with ⟨HO, Hrest⟩
  iapply (wp_bindI d _ _ _)
  iapply (region0 m d _)
  isplitr; · iexact Hlev
  isplitl [Hb]; · iexact Hb
  isplitl [Hh]; · iexact Hh
  isplitl [HO]; · iexact HO
  isplitl [Hg0]; · iexact Hg0
  isplitl [Ht0]; · iexact Ht0
  iintro ⟨Hb, Hh, HO⟩
  ihave Hst := (Entails.of_eq (tcSt_eq d 0).symm) $$ [HO Hrest]
  · isplitl [HO] <;> iassumption
  iapply (wp_bindI d _ _ _)
  iapply (call m κ d _)
  isplitr; · iexact Hctx
  isplitl [Hst]; · iexact Hst
  isplitl [Hh]; · iexact Hh
  iintro ⟨Hst, Hh⟩
  ihave Hs := (StableHlo.wp_seq (defs := (K (F := F)).defs (D (F := F))) (𝒱 := 𝒱) (bd := none) (E := Set.univ) d hostRefs _ ops1 ops1_sub ops1_fresh (W3 m d)) $$ [Hb Hh]
  · isplitl [Hb] <;> iassumption
  iapply Hs
  iintro ⟨Hb, Hh⟩
  ihave Hh := (Entails.of_eq (show (StableHlo.held (SparseCore.T d) hostRefs (StableHlo.after ops1 (W3 m d)) : sProp 𝕄) = StableHlo.held (SparseCore.T d) hostRefs (W4 m d) from rfl)) $$ Hh
  ihave Hst := (Entails.of_eq (tcSt_eq d 1)) $$ Hst
  icases Hst with ⟨HO, Hrest⟩
  iapply (wp_bindI d _ _ _)
  iapply (region1 m d _)
  isplitr; · iexact Hlev
  isplitl [Hb]; · iexact Hb
  isplitl [Hh]; · iexact Hh
  isplitl [HO]; · iexact HO
  isplitl [Hg1]; · iexact Hg1
  isplitl [Ht1]; · iexact Ht1
  iintro ⟨Hb, Hh, HO⟩
  ihave Hst := (Entails.of_eq (tcSt_eq d 1).symm) $$ [HO Hrest]
  · isplitl [HO] <;> iassumption
  iapply (wp_doneI d _)
  isplitl [Hst]; · iexact Hst
  isplitl [Hh]; · iexact Hh
  isplitl [Hb] <;> iassumption

end Main

end Cert.Proof.Gather
-- ==== Proof.Whole.lean ====
/-
  The launch: the ghost state it starts from, what is read off the final state, and the run of the whole program.
-/
module

public import proofs.«01_k».proof.Proof.Main
public import Idealize.ShloMosaic.Lib.ReduceAll

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.Rounds

section Whole

variable (m : (ℓ : Loc nD τ sig) → Buf (Elt F) ℓ) (ρ : Dev nD → PrngReg)

/-! ## The launch element -/

/-- The launch element: the calls' handshakes, the regions' counters, no counters of its own. -/
def u₀ : UU :=
  (initOf (K (F := F)).hsCells (K (F := F)).hsToks,
    (initOf (Pipeline.cells cfgs cellOf_inj) (Pipeline.launchToks cfgs cellOf_inj), 1))

/-- It splits into the handshakes' part, every core's regions' counters, and nothing for the tiles. -/
theorem hu₀ : (ownU (u₀ (F := F)) : sProp 𝕄)
    ⊢ |={Set.univ}=> iprop(BI.own (EH (initOf (K (F := F)).hsCells (K (F := F)).hsToks)) ∗ (bigSep Finset.univ fun d : Dev nD => GG (F := F) d)
        ∗ bigSep Finset.univ fun thr : Thread nD τ => bigSep Finset.univ fun q : Fin 1 => (P (tabs m) (nums m)).x q thr) := by
  have hx : (bigSep Finset.univ fun thr : Thread nD τ => bigSep Finset.univ fun q : Fin 1 => (P (tabs m) (nums m)).x q thr)
      = (iprop(emp) : sProp 𝕄) :=
    (show _ = bigSep Finset.univ fun _ : Thread nD τ => (iprop(emp) : sProp 𝕄) from
      bigSep_congr fun _ _ => bigSep_univ_of_subsingleton (0 : Fin 1)).trans (bigSep_emp_const _)
  have hG : (bigSep Finset.univ fun d : Dev nD => GG (F := F) d)
      = iprop((bigSep Finset.univ fun d : Dev nD => bigSep Finset.univ fun p => Pipeline.cellsGhost cfgs EP p d)
          ∗ (bigSep Finset.univ fun d : Dev nD => bigSep Finset.univ fun p => (Pipeline.toksInit cfgs EP p d : sProp 𝕄))) := bigSep_sep' ..
  unfold u₀
  iintro Hu
  ihave H := (ownU_pair (initOf (K (F := F)).hsCells (K (F := F)).hsToks)
    ((initOf (Pipeline.cells cfgs cellOf_inj) (Pipeline.launchToks cfgs cellOf_inj), (1 : Counters)))) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost cfgs EP cellOf_inj) $$ HP with ⟨Hc, Ht⟩
  imodintro
  isplitl [HH]; · iexact HH
  isplitl [Hc Ht]
  · iapply (Entails.of_eq hG.symm)
    isplitl [Hc]; · iexact Hc
    iexact Ht
  iapply (Entails.of_eq hx.symm)
  iempintro

/-! ## What is read off the final state -/

/-- Arrays held agree with the state. -/
theorem held_agree (d : Dev nD) (T : Finset (DevRef τ sig)) (W : Valuation τ sig (Elt F)) (s' : Phys nD τ sig (Elt F)) :
    iprop(StableHlo.held (SparseCore.T d) T W ∗ SI s') ⊢ (⌜∀ b ∈ T, s'.mem.mem ((d : Dev nD), b) = W b⌝ : sProp 𝕄) := by
  induction T using Finset.induction_on with
  | empty => iintro H; ipureintro; intro b hb; exact absurd hb (Finset.notMem_empty b)
  | insert a T ha ih =>
    have e : (StableHlo.held (SparseCore.T d) (insert a T) W : sProp 𝕄)
        = iprop((((d : Dev nD), a) ↦{fullShare} W a) ∗ StableHlo.held (SparseCore.T d) T W) := by
      unfold StableHlo.held; exact SparseCore.bigSep_insert' ha
    iintro ⟨Hh, HSI⟩
    ihave Hh := (Entails.of_eq e) $$ Hh
    icases Hh with ⟨Ha, Hh⟩
    ihave H := (persistent_entails_right (SI_pointsTo_agree (st := s') (ℓ := ((d : Dev nD), a)) (I := Finset.univ) (q := fullShare) (f := W a))) $$ [HSI Ha]
    · isplitl [HSI] <;> iassumption
    icases H with ⟨%h1, HSI, -⟩
    ihave H := ih $$ [HSI Hh]
    · isplitl [Hh] <;> iassumption
    icases H with %h2
    ipureintro
    intro b hb
    rcases Finset.mem_insert.mp hb with rfl | hb
    · exact funext fun i => h1 i (Finset.mem_univ i)
    · exact h2 b hb

/-- A final state holds the program's last valuation. -/
def fq (d : Dev nD) (s' : Phys nD τ sig (Elt F)) : Prop := ∀ b ∈ hostRefs, s'.mem.mem ((d : Dev nD), b) = W5 m d b

/-- What the program ends with fixes the final memory. -/
theorem hfin (d : Dev nD) (s' : Phys nD τ sig (Elt F)) : iprop(FIN m d ∗ SI s') ⊢ (⌜fq m d s'⌝ : sProp 𝕄) :=
  held_agree d hostRefs (W5 m d) s'

/-! ## The run -/

/-- After the run every unscoped TensorCore array holds the last valuation, and every semaphore reads zero. -/
def QC : PUnit × MemSt nD τ sig (Elt F) → Prop := fun r =>
  (∀ c : Dev nD, ∀ b ∈ hostRefs, r.2.mem ((c : Dev nD), b) = W5 m c b) ∧ r.2.sem = fun _ => 0

/-- The program runs, given that every row number the gather is handed names a row. -/
theorem run_main [∀ e, Nonempty (Elt F e)] (hI : ∀ d x, (nums m d x).toNat < 500000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabs m) (nums m)) (A := ∅) facts v₀
    (fun q hq => match q with | 0 => nomatch hq)
    (fun q _ => match q with | 0 => tileObl (tabs m) (nums m) facts hI)
    (fun q _ => match q with | 0 => SparseCore.Cfg.VecSplit.of_plain (vecSplit (tabs m) (nums m)))
    m ρ main (GG (F := F)) (FIN m) (u₀ (F := F)) (sep_elim_left.trans (hu₀ m)) (hmain m ρ) (fq m) (hfin m) (QC m) (fun _ h hz => ⟨h, hz⟩)

end Whole

end Cert.Proof.Gather
-- ==== Proof.Reads.lean ====
/-
  What the arrays hold at each step of the program, read back to the arguments.
-/
module

public import proofs.«01_k».proof.Proof.Main

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Reads

variable (m : (ℓ : Loc nD τ sig) → Buf (Elt F) ℓ) (d : Dev nD)

/-- An argument array at launch. -/
abbrev arg (b : Ref sig .tc) : b.ty.Contents (Elt F) := m ((d.tc : Thread nD τ).loc b)

/-- The host's first operations leave the arguments as they were. -/
theorem W1_arg (b : Ref sig .tc) (h : b ∈ [main_arg0, main_arg1, main_arg2, main_arg3, main_arg4, main_arg5]) :
    W1 m d (Proc.devRef .tc b) = arg m d b := by
  simp only [List.mem_cons, List.mem_nil_iff, or_false] at h
  unfold W1
  rcases h with rfl | rfl | rfl | rfl | rfl | rfl <;> (after_reads_simp; try rfl)

/-- The index list: the indices, reordered by row block and halved. -/
theorem W1_v4 : (W1 m d (Proc.devRef .tc main_v4) : (⟨S1x204800, .i32⟩ : BufTy).Contents (Elt F))
    = Host.shrsi (shapeCast S1x204800 (transpose S16x50x256 [0, 2, 1] (shapeCast S16x256x50 (arg m d main_arg0 : (⟨S4096x50, .i32⟩ : BufTy).Contents (Elt F)) shapeCasts_S4096x50_S16x256x50) transposes_S16x256x50_S16x50x256_0_2_1) shapeCasts_S16x50x256_S1x204800)
        (broadcastInDim S1x204800 ![] bcast_S_S1x204800 (constantI S_ 32 1#32)) := by
  unfold W1
  after_reads_simp
  try rfl

/-- The halves: the lowest bits of the indices, padded with zeros. -/
theorem W1_v7 : (W1 m d (Proc.devRef .tc main_v7) : (⟨S4096x64, .i32⟩ : BufTy).Contents (Elt F))
    = pad S4096x64 ![0, 0] ![0, 14] ![0, 0] (andi (arg m d main_arg0 : (⟨S4096x50, .i32⟩ : BufTy).Contents (Elt F)) (broadcastInDim S4096x50 ![] bcast_S_S4096x50 (constantI S_ 32 1#32)))
        (constantI S_ 32 0#32) pads_S4096x50_S4096x64_000_0140 h_S_ := by
  unfold W1
  after_reads_simp
  try rfl

/-- The repack and the gather write their own results only. -/
theorem W3_of (b : Ref sig .tc) (h8 : b ≠ main_v8) (h9 : b ≠ main_v9) : W3 m d (Proc.devRef .tc b) = W1 m d (Proc.devRef .tc b) := by
  unfold W3
  rw [Function.update_of_ne (StableHlo.devRef_ne_of_ne h9)]
  unfold W2
  rw [Function.update_of_ne (StableHlo.devRef_ne_of_ne h8)]

/-- The repacking leaves the index list as it was. -/
theorem W2_v4 : nums m d = W1 m d (Proc.devRef .tc main_v4) := by
  show W2 m d _ = _
  unfold W2
  exact Function.update_of_ne (StableHlo.devRef_ne_of_ne (by decide)) _ _

/-- The repacked table. -/
theorem W2_v8 : tabs m d = packT (arg m d main_arg1) := by
  show W2 m d _ = _
  unfold W2
  rw [Function.update_self, W1_arg m d main_arg1 (by simp)]

/-- The gathered rows. -/
theorem W3_v9 : W3 m d (Proc.devRef .tc main_v9) = gath (tabs m d) (nums m d) := by
  unfold W3
  exact Function.update_self _ _ _

/-- The host's later operations leave these arrays as they were. -/
theorem W4_of (b : Ref sig .tc) (h : b ∈ [main_arg0, main_arg1, main_arg2, main_arg3, main_arg4, main_arg5, main_v7, main_v9]) :
    W4 m d (Proc.devRef .tc b) = W3 m d (Proc.devRef .tc b) := by
  simp only [List.mem_cons, List.mem_nil_iff, or_false] at h
  unfold W4
  rcases h with rfl | rfl | rfl | rfl | rfl | rfl | rfl | rfl <;> (after_reads_simp; try rfl)

/-- Row 0 of the table. -/
theorem W4_v10 : (W4 m d (Proc.devRef .tc main_v10) : (⟨S1x64, .f32⟩ : BufTy).Contents (Elt F))
    = extractStridedSlice S1x64 ![0, 0] (W3 m d (Proc.devRef .tc main_arg1) : (⟨S1000000x64, .f32⟩ : BufTy).Contents (Elt F)) slices_S1000000x64_S1x64_0_0 := by
  unfold W4
  after_reads_simp
  try rfl

/-- The first layer's weights, cast. -/
theorem W4_v11 : (W4 m d (Proc.devRef .tc main_v11) : (⟨S3328x1024, .bf16⟩ : BufTy).Contents (Elt F))
    = truncf .bf16 (W3 m d (Proc.devRef .tc main_arg2) : (⟨S3328x1024, .f32⟩ : BufTy).Contents (Elt F)) bitsLt_bf16_f32 := by
  unfold W4
  after_reads_simp
  try rfl

/-- The second layer's weights, cast. -/
theorem W4_v12 : (W4 m d (Proc.devRef .tc main_v12) : (⟨S1024x1000, .bf16⟩ : BufTy).Contents (Elt F))
    = truncf .bf16 (W3 m d (Proc.devRef .tc main_arg4) : (⟨S1024x1000, .f32⟩ : BufTy).Contents (Elt F)) bitsLt_bf16_f32 := by
  unfold W4
  after_reads_simp
  try rfl

/-- The first layer's bias as a row. -/
theorem W4_v13 : (W4 m d (Proc.devRef .tc main_v13) : (⟨S1x1024, .f32⟩ : BufTy).Contents (Elt F))
    = shapeCast S1x1024 (W3 m d (Proc.devRef .tc main_arg3) : (⟨S1024, .f32⟩ : BufTy).Contents (Elt F)) shapeCasts_S1024_S1x1024 := by
  unfold W4
  after_reads_simp
  try rfl

/-- The second layer's bias as a row. -/
theorem W4_v14 : (W4 m d (Proc.devRef .tc main_v14) : (⟨S1x1000, .f32⟩ : BufTy).Contents (Elt F))
    = shapeCast S1x1000 (W3 m d (Proc.devRef .tc main_arg5) : (⟨S1000, .f32⟩ : BufTy).Contents (Elt F)) shapeCasts_S1000_S1x1000 := by
  unfold W4
  after_reads_simp
  try rfl

/-- The arguments are kept to the end. -/
theorem W5_arg (b : Ref sig .tc) (h : b ∈ [main_arg0, main_arg1, main_arg2, main_arg3, main_arg4, main_arg5]) :
    W5 m d (Proc.devRef .tc b) = arg m d b := by
  have h' := h
  simp only [List.mem_cons, List.mem_nil_iff, or_false] at h'
  have n (c : Ref sig .tc) (hc : c = main_v8 ∨ c = main_v9 ∨ c = main_v15) : b ≠ c := by
    rcases h' with rfl | rfl | rfl | rfl | rfl | rfl <;> rcases hc with rfl | rfl | rfl <;> decide
  unfold W5
  rw [Function.update_of_ne (StableHlo.devRef_ne_of_ne (n main_v15 (by simp))), W4_of m d b (by simp only [List.mem_cons]; tauto),
    W3_of m d b (n main_v8 (by simp)) (n main_v9 (by simp)), W1_arg m d b h]

end Reads

end Cert.Proof.Gather
-- ==== Proof.Ends.lean ====
/-
  The precondition read at an index, and the runs of the kernel and of the reference.
-/
module

public import proofs.«01_k».proof.Defs
public import proofs.«01_k».proof.Proof.Whole
public import proofs.«01_k».proof.Proof.Reads
public import proofs.«01_k».proof.Proof.Gen.Kernel
public import proofs.«01_k».proof.Proof.Gen.Pre_in_range
public import proofs.«01_k».proof.Proof.Gen.ReferenceIdeal.Run
public import Idealize.ShloMosaic.Lib.ReduceAll
public import Idealize.ShloMosaic.Lib.PackedFields

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The precondition, read: every index is below the number of rows. -/
theorem in_range_apply (x : S4096x50.Idx → BitVec 32) (a1 : S1000000x64.Idx → Elt F .f32) (a2 : S3328x1024.Idx → Elt F .f32) (a3 : S1024.Idx → Elt F .f32)
    (a4 : S1024x1000.Idx → Elt F .f32) (a5 : S1000.Idx → Elt F .f32) (h : Cert.Pre_in_range.fn (F := F) x a1 a2 a3 a4 a5 = fun _ => 1#1) (i : S4096x50.Idx) :
    (x i).toNat < 1000000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 1000000#32) = 1#1 → v.toNat < 1000000 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  haveI : Subsingleton (Cert.Pre_in_range.S_).Idx := ⟨fun a b => funext fun q => q.elim0⟩
  have e := congrFun h (Shape.Idx.first Cert.Pre_in_range.Facts.h_S_)
  dsimp only [Cert.Pre_in_range.fn] at e
  exact key _ (Host.reduce_andi_all _ _ _ _ _ e i)

/-- Halving a word below a million. -/
theorem half_word (x : BitVec 32) (h : x.toNat < 1000000) : (IntOp.shrsi .host x 1#32).toNat = x.toNat / 2 := by
  have hm : x.msb = false := by rw [BitVec.msb_eq_false_iff_two_mul_lt]; omega
  unfold IntOp.shrsi
  rw [if_pos (by decide)]
  show (x.sshiftRight 1).toNat = _
  rw [BitVec.sshiftRight_eq_of_msb_false hm, BitVec.toNat_ushiftRight, Nat.shiftRight_eq_div_pow]

section Nums

variable (m : (ℓ : Loc nD τ sig) → Buf (Elt F) ℓ) (d : Dev nD)

/-- The place of sentence `256 k + b`'s word `j`. -/
def place (k : Fin 16) (b : Fin 256) (j : Fin 50) : S4096x50.Idx
  | ⟨0, _⟩ => (⟨256 * k.val + b.val, by have := k.isLt; have := b.isLt; omega⟩ : Fin 4096)
  | ⟨1, _⟩ => j

/-- The gather's row number for place `j` of sentence `256 k + b`. -/
theorem nums_apply (k : Fin 16) (j : Fin 50) (b : Fin 256) (x : S1x204800.Idx) (hx : (x 1).val = (k.val * 50 + j.val) * 256 + b.val) :
    (nums m d : S1x204800.Idx → BitVec 32) x = IntOp.shrsi .host ((arg m d main_arg0 : S4096x50.Idx → BitVec 32) (place k b j)) 1#32 := by
  have h0 : (x 0).val = 0 := by have : (x 0).val < 1 := (x 0).isLt; omega
  rw [W2_v4, W1_v4]
  refine congrArg₂ (IntOp.shrsi .host) ?_ rfl
  refine (shapeCast_apply _ _ x (fun | ⟨0, _⟩ => k | ⟨1, _⟩ => j | ⟨2, _⟩ => b : S16x50x256.Idx) ?_).trans ?_
  · rw [rowMajor_val3 _ 12800 256 rfl rfl, rowMajor_val2 _ 204800 rfl, h0, hx]
    show k.val * 12800 + j.val * 256 + b.val = _
    omega
  refine (transpose_apply _ _ _ _ (fun | ⟨0, _⟩ => k | ⟨1, _⟩ => b | ⟨2, _⟩ => j : S16x256x50.Idx) ?_).trans ?_
  · intro a; fin_cases a <;> rfl
  refine shapeCast_apply _ _ _ _ ?_
  show ((S4096x50).rowMajor (place k b j)).val = ((S16x256x50).rowMajor _).val
  rw [rowMajor_val3 _ 12800 50 rfl rfl, rowMajor_val2 _ 50 rfl]
  show (256 * k.val + b.val) * 50 + j.val = k.val * 12800 + b.val * 50 + j.val
  omega

/-- The gather's row numbers, given the indices in range. -/
theorem nums_lt (h : ∀ i, ((arg m d main_arg0 : S4096x50.Idx → BitVec 32) i).toNat < 1000000) (x : S1x204800.Idx) :
    (nums m d x).toNat < 500000 := by
  have hx : (x 1).val < 204800 := (x 1).isLt
  show ((nums m d : S1x204800.Idx → BitVec 32) x).toNat < _
  rw [nums_apply m d ⟨(x 1).val / 12800, by omega⟩ ⟨(x 1).val / 256 % 50, by omega⟩ ⟨(x 1).val % 256, by omega⟩ x (by
    show (x 1).val = ((x 1).val / 12800 * 50 + (x 1).val / 256 % 50) * 256 + (x 1).val % 256; omega), half_word _ (h _)]
  exact Nat.div_lt_of_lt_mul (h _)

end Nums

/-! ## The runs -/

/-- The arguments and the result are among the buffers that the host holds. -/
theorem mem_hostRefs (b : Ref sig .tc) (h : b ∈ [main_arg0, main_arg1, main_arg2, main_arg3, main_arg4, main_arg5, main_v15]) :
    (Proc.devRef .tc b : DevRef τ sig) ∈ hostRefs := by
  refine Finset.mem_filter.mpr ⟨StableHlo.devRef_mem_tcRefs _, ?_⟩
  simp only [List.mem_cons, List.mem_nil_iff, or_false] at h
  rcases h with rfl | rfl | rfl | rfl | rfl | rfl | rfl <;> decide

/-- What a run's end says of one argument. -/
theorem QC_arg (m : (ℓ : Loc nD τ sig) → Buf (Elt F) ℓ) {r : PUnit × MemSt nD τ sig (Elt F)} (h : QC m r) (c : Dev nD) (b : Ref sig .tc)
    (hb : b ∈ [main_arg0, main_arg1, main_arg2, main_arg3, main_arg4, main_arg5]) :
    r.2.mem ((c.tc : Thread nD τ).loc b) = m ((c.tc : Thread nD τ).loc b) :=
  (h.1 c _ (mem_hostRefs b (by simp only [List.mem_cons] at hb ⊢; tauto))).trans (W5_arg m c b hb)

/-- All six. -/
theorem QC_args (m : (ℓ : Loc nD τ sig) → Buf (Elt F) ℓ) {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨QC_arg m h c main_arg0 (by simp), QC_arg m h c main_arg1 (by simp), QC_arg m h c main_arg2 (by simp),
    QC_arg m h c main_arg3 (by simp), QC_arg m h c main_arg4 (by simp), QC_arg m h c main_arg5 (by simp)⟩

/-- The two programs' last kernels are one. -/
theorem mlp_body_eq : @Cert.Kernel.cc2__mlp_body Bits _ Cert.Kernel.Gen.facts = @Cert.KernelIdeal.cc2__mlp_body Bits _ Cert.KernelIdeal.Gen.facts := rfl

set_option maxHeartbeats 4000000 in
/-- The two programs' kernels are the same. -/
theorem bodies_eq : @Cert.Kernel.defs₀ Bits _ Cert.Kernel.Gen.facts = @Cert.KernelIdeal.defs₀ Bits _ Cert.KernelIdeal.Gen.facts := by
  funext p l a
  unfold Cert.Kernel.defs₀ Cert.KernelIdeal.defs₀
  rw [mlp_body_eq]
  cases p
  all_goals fin_cases l
  all_goals rfl

set_option maxHeartbeats 4000000 in
/-- The two programs call the same things. -/
theorem calls_eq : @Cert.Kernel.defs Bits _ Cert.Kernel.Gen.facts = @Cert.KernelIdeal.defs Bits _ Cert.KernelIdeal.Gen.facts := by
  unfold Cert.Kernel.defs Cert.KernelIdeal.defs
  rw [bodies_eq]
  rfl

/-- The kernel as printed runs, keeps its arguments and ends with every semaphore at zero. -/
theorem frame_kernel : Cert.quiescent_Kernel := by
  intro m ρ hpre
  rw [calls_eq]
  have key := run_main (F := Bits) m ρ fun d => nums_lt m d (in_range_apply _ _ _ _ _ _ (hpre d))
  exact (θ_run (Cert.KernelIdeal.defs (F := Bits)) (Cert.KernelIdeal.threads (F := Bits)) ⟨m, fun _ => 0, ρ⟩).mono
    (fun r (h : QC (F := Bits) m r) => ⟨fun c => QC_args m h c, h.2⟩) key

/-- The idealized kernel too. -/
theorem frame_ideal : Cert.quiescent_KernelIdeal := fun m ρ hpre =>
  (θ_run Cert.KernelIdeal.defs _ _).mono (fun _ h => ⟨fun c => QC_args m h c, h.2⟩)
    (run_main (F := Ideal) m ρ fun d => nums_lt m d (in_range_apply _ _ _ _ _ _ (hpre d)))

/-- The reference runs, keeps its arguments and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Gather
-- ==== Proof.Spec.lean ====
/-
  What the result is, over the reals: embedding rows, the maximum over three positions, two layers.
-/
module

public import proofs.«01_k».proof.Proof.Base
public import Idealize.ShloMosaic.Lib.Pointwise

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

/-- The table row that position `q` of sentence `B`, padded by two zeros at both ends, names. -/
def rowOf (X : S4096x50.Idx → BitVec 32) (B : Fin 4096) (q : ℕ) : Fin 1000000 :=
  if h : 2 ≤ q ∧ q < 52 then ⟨(X (ix2 B (⟨q - 2, by omega⟩ : Fin 50))).toNat % 1000000, Nat.mod_lt _ (by decide)⟩ else ⟨0, by decide⟩

/-- Entry `e` of that row. -/
def embed {α : Type} (X : S4096x50.Idx → BitVec 32) (T : S1000000x64.Idx → α) (B : Fin 4096) (q : ℕ) (e : Fin 64) : α :=
  T (ix2 (rowOf X B q) e)

/-- Entry `c` of the sentence's pooled row: the maximum over three positions in turn. -/
def pooled (X : S4096x50.Idx → BitVec 32) (T : S1000000x64.Idx → EReal) (B : Fin 4096) (c : ℕ) : EReal :=
  max (max (embed X T B (c / 64) ⟨c % 64, Nat.mod_lt _ (by decide)⟩) (embed X T B (c / 64 + 1) ⟨c % 64, Nat.mod_lt _ (by decide)⟩))
    (embed X T B (c / 64 + 2) ⟨c % 64, Nat.mod_lt _ (by decide)⟩)

/-- Entry `h` of the hidden layer. -/
def hiddenRow (X : S4096x50.Idx → BitVec 32) (T : S1000000x64.Idx → EReal) (V₁ : S3328x1024.Idx → EReal) (u₁ : S1024.Idx → EReal) (B : Fin 4096) (h : Fin 1024) : EReal :=
  max ((∑ c : Fin 3328, pooled X T B c.val * V₁ (ix2 c h)) + u₁ (ix1 h)) 0

/-- The result. -/
def answer (X : S4096x50.Idx → BitVec 32) (T : S1000000x64.Idx → EReal) (V₁ : S3328x1024.Idx → EReal) (u₁ : S1024.Idx → EReal)
    (V₂ : S1024x1000.Idx → EReal) (u₂ : S1000.Idx → EReal) (B : Fin 4096) (n : Fin 1000) : EReal :=
  (∑ h : Fin 1024, hiddenRow X T V₁ u₁ B h * V₂ (ix2 h n)) + u₂ (ix1 n)

end Cert.Proof.Gather
-- ==== Proof.Flat.lean ====
/-
  The MLP kernel's filled scratch, from the arguments: row by row the padded sentence's embedding rows.
-/
module

public import proofs.«01_k».proof.Proof.Ends
public import proofs.«01_k».proof.Proof.Spec
public import Idealize.ShloMosaic.Lib.KernelVsHost

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Flat

variable (m : (ℓ : Loc nD τ sig) → Buf (Elt F) ℓ) (d : Dev nD)

/-- Block `k` of the gathered rows, at row `256 j + b`: the two table rows that hold the row asked for. -/
theorem rows_apply (hr : ∀ i, ((arg m d main_arg0 : S4096x50.Idx → BitVec 32) i).toNat < 1000000) (k : Fin 16) (j : Fin 50) (b : Fin 256) (z : S12800x128.Idx)
    (h0 : (z 0).val = 256 * j.val + b.val) (y : S1000000x64.Idx) (hy0 : (y 0).val = 2 * (((arg m d main_arg0 : S4096x50.Idx → BitVec 32) (place k b j)).toNat / 2) + (z 1).val / 64)
    (hy1 : (y 1).val = (z 1).val % 64) :
    rowsB (W4 m d (Proc.devRef .tc main_v9) : S204800x128.Idx → Elt F .f32) k z = (arg m d main_arg1 : S1000000x64.Idx → Elt F .f32) y := by
  rw [W4_of m d main_v9 (by simp), W3_v9, W2_v8]
  unfold rowsB gath packT
  have hn : ∀ x : S1x204800.Idx, (x 1).val = (k.val * 50 + j.val) * 256 + b.val →
      ((nums m d : S1x204800.Idx → BitVec 32) x).toNat = ((arg m d main_arg0 : S4096x50.Idx → BitVec 32) (place k b j)).toNat / 2 := by
    intro x hx
    rw [nums_apply m d k j b x hx]
    exact half_word _ (hr _)
  have hlt := hr (place k b j)
  refine congrArg (arg m d main_arg1 : S1000000x64.Idx → Elt F .f32) (idx2_ext ?_ ?_)
  · rw [hy0]
    show 2 * (((nums m d : S1x204800.Idx → BitVec 32) _).toNat % 500000) + (z 1).val / 64 = _
    rw [hn _ (by show 12800 * k.val + (z 0).val = _; omega), Nat.mod_eq_of_lt (Nat.div_lt_of_lt_mul hlt)]
  · rw [hy1]; rfl

/-- Block `k` of the low bits. -/
theorem bits_apply (k : Fin 16) (j : Fin 50) (b : Fin 256) (z : S256x64.Idx) (h0 : (z 0).val = b.val) (h1 : (z 1).val = j.val) :
    bitsB (W4 m d (Proc.devRef .tc main_v7) : S4096x64.Idx → Elt F .i32) k z = IntOp.andi ((arg m d main_arg0 : S4096x50.Idx → BitVec 32) (place k b j)) 1#32 := by
  rw [W4_of m d main_v7 (by simp), W3_of m d main_v7 (by decide) (by decide), W1_v7]
  unfold bitsB
  refine (pad_apply_of_inside _ _ _ _ _ _ _ _ (place k b j) ?_).trans rfl
  intro a
  match a with
  | ⟨0, _⟩ => show 256 * k.val + (z 0).val = 0 + (256 * k.val + b.val) * (0 + 1); omega
  | ⟨1, _⟩ => show (z 1).val = 0 + j.val * (0 + 1); omega

/-- A word's low bit. -/
theorem low_bit (x : BitVec 32) : IntOp.andi x 1#32 = 1#32 ↔ x.toNat % 2 = 1 := by
  unfold IntOp.andi
  rw [← BitVec.toNat_inj, BitVec.toNat_and]
  show x.toNat &&& 1 = 1 ↔ _
  rw [Nat.and_one_is_mod]

/-- The filled scratch of block `k`: the padded sentences' embedding rows side by side. -/
theorem cat_apply (hr : ∀ i, ((arg m d main_arg0 : S4096x50.Idx → BitVec 32) i).toNat < 1000000) (k : Fin 16) (B : Fin 4096) (y : S256x3456.Idx) (hB : B.val = 256 * k.val + (y 0).val) :
    cat (rowsB (W4 m d (Proc.devRef .tc main_v9) : S204800x128.Idx → Elt F .f32) k) (bitsB (W4 m d (Proc.devRef .tc main_v7) : S4096x64.Idx → Elt F .i32) k)
      (W4 m d (Proc.devRef .tc main_v10) : S1x64.Idx → Elt F .f32) y
    = embed (arg m d main_arg0 : S4096x50.Idx → BitVec 32) (arg m d main_arg1 : S1000000x64.Idx → Elt F .f32) B ((y 1).val / 64) ⟨(y 1).val % 64, Nat.mod_lt _ (by decide)⟩ := by
  have hy0 : (y 0).val < 256 := (y 0).isLt
  unfold cat embed
  by_cases hk : 2 ≤ (y 1).val / 64 ∧ (y 1).val / 64 < 52
  · rw [dif_pos hk]
    have hp : (ix2 B (⟨(y 1).val / 64 - 2, by omega⟩ : Fin 50) : S4096x50.Idx) = place k (y 0) ⟨(y 1).val / 64 - 2, by omega⟩ := idx2_ext hB rfl
    have hrow : (rowOf (arg m d main_arg0 : S4096x50.Idx → BitVec 32) B ((y 1).val / 64)).val
        = ((arg m d main_arg0 : S4096x50.Idx → BitVec 32) (place k (y 0) ⟨(y 1).val / 64 - 2, by omega⟩)).toNat := by
      unfold rowOf
      rw [dif_pos hk, ← hp]
      exact Nat.mod_eq_of_lt (hr _)
    unfold half
    rw [bits_apply m d k ⟨(y 1).val / 64 - 2, by omega⟩ (y 0) _ rfl rfl]
    have hm : (y 1).val % 64 < 64 := Nat.mod_lt _ (by decide)
    split
    · next hb =>
      have hb := (low_bit _).mp hb
      refine rows_apply m d hr k ⟨(y 1).val / 64 - 2, by omega⟩ (y 0) _ rfl _ ?_ ?_
      · show (rowOf _ _ _).val = _ + (64 + (y 1).val % 64) / 64
        rw [hrow]; omega
      · show (y 1).val % 64 = (64 + (y 1).val % 64) % 64
        omega
    · next hb =>
      have hb := mt (low_bit _).mpr hb
      refine rows_apply m d hr k ⟨(y 1).val / 64 - 2, by omega⟩ (y 0) _ rfl _ ?_ ?_
      · show (rowOf _ _ _).val = _ + ((y 1).val % 64) / 64
        rw [hrow]; omega
      · show (y 1).val % 64 = ((y 1).val % 64) % 64
        omega
  · rw [dif_neg hk, W4_v10, W3_of m d main_arg1 (by decide) (by decide), W1_arg m d main_arg1 (by simp)]
    refine congrArg (arg m d main_arg1 : S1000000x64.Idx → Elt F .f32) (idx2_ext ?_ ?_)
    · show 0 + 0 = (rowOf _ _ _).val
      unfold rowOf
      rw [dif_neg hk]
    · show 0 + (y 1).val % 64 = (y 1).val % 64
      omega

end Flat

end Cert.Proof.Gather
-- ==== Proof.Layers.lean ====
/-
  The kernel's result over the reals, entry by entry.
-/
module

public import proofs.«01_k».proof.Proof.Flat

@[expose] public section

noncomputable section

namespace Cert.Proof.Gather

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

section Layers

variable (v : S12800x128.Idx → Elt Ideal .f32) (h : S256x64.Idx → Elt Ideal .i32) (r : S1x64.Idx → Elt Ideal .f32) (w1 : S3328x1024.Idx → Elt Ideal .bf16) (b1 : S1x1024.Idx → Elt Ideal .f32)
    (w2 : S1024x1000.Idx → Elt Ideal .bf16) (b2 : S1x1000.Idx → Elt Ideal .f32)

/-- The body's window maximum, at an entry. -/
theorem window_apply (s : S256x3456.Idx → Elt Ideal .f32) (b : Fin 256) (c : Fin 3328) :
    k2_pay82 (F := Ideal) s (ix2 b c) = max (max (s (ix2 b (⟨c.val, by omega⟩ : Fin 3456))) (s (ix2 b (⟨64 + c.val, by omega⟩ : Fin 3456)))) (s (ix2 b (⟨128 + c.val, by omega⟩ : Fin 3456))) := by
  unfold k2_pay82
  refine congrArg₂ max (congrArg₂ max (congrArg s (idx2_ext ?_ ?_)) (congrArg s (idx2_ext ?_ ?_))) (congrArg s (idx2_ext ?_ ?_))
  all_goals first | exact Nat.zero_add _ | rfl

/-- The body's two layers, at an entry. -/
theorem layers_apply (p : S256x3328.Idx → Elt Ideal .bf16) (b : Fin 256) (n : Fin 1000) :
    k2_pay1 (F := Ideal) p w1 b1 w2 b2 (ix2 b n)
      = (∑ h : Fin 1024, max ((∑ c : Fin 3328, p (ix2 b c) * w1 (ix2 c h)) + b1 (ix2 (0 : Fin 1) h)) 0 * w2 (ix2 h n)) + b2 (ix2 (0 : Fin 1) n) := by
  pointwise [k2_pay1]

end Layers

section Value

variable (m : (ℓ : Loc nD τ sig) → Buf (Elt Ideal) ℓ) (d : Dev nD)

/-- What the kernel leaves in its result, entry by entry. -/
theorem kernel_value (hr : ∀ i, ((arg m d main_arg0 : S4096x50.Idx → BitVec 32) i).toNat < 1000000) (B : Fin 4096) (n : Fin 1000) :
    (W5 m d (Proc.devRef .tc main_v15) : S4096x1000.Idx → EReal) (ix2 B n)
      = answer (arg m d main_arg0) (arg m d main_arg1) (arg m d main_arg2) (arg m d main_arg3) (arg m d main_arg4) (arg m d main_arg5) B n := by
  unfold W5
  rw [Function.update_self]
  have e := mlpT_of (F := Ideal) (W4 m d (Proc.devRef .tc main_v9)) (W4 m d (Proc.devRef .tc main_v7)) (W4 m d (Proc.devRef .tc main_v10)) (W4 m d (Proc.devRef .tc main_v11)) (W4 m d (Proc.devRef .tc main_v13))
    (W4 m d (Proc.devRef .tc main_v12)) (W4 m d (Proc.devRef .tc main_v14)) (ix2 B n) ⟨B.val / 256, by omega⟩ (ix2 (⟨B.val % 256, Nat.mod_lt _ (by decide)⟩ : Fin 256) n)
    (by show B.val = 256 * (B.val / 256) + B.val % 256; omega) rfl
  refine e.trans ?_
  unfold mlpB
  rw [layers_apply]
  unfold answer hiddenRow pooled
  refine congrArg₂ (· + ·) (Finset.sum_congr rfl fun h _ => congrArg₂ (· * ·) (congrArg₂ max (congrArg₂ (· + ·) (Finset.sum_congr rfl fun c _ => congrArg₂ (· * ·) ?_ ?_) ?_) rfl) ?_) ?_
  · rw [window_apply]
    refine congrArg₂ max (congrArg₂ max ?_ ?_) ?_
    · exact cat_apply m d hr _ B _ (by show B.val = 256 * (B.val / 256) + B.val % 256; omega)
    · refine (cat_apply m d hr _ B _ (by show B.val = 256 * (B.val / 256) + B.val % 256; omega)).trans ?_
      unfold embed
      refine congrArg _ (congrArg₂ ix2 (congrArg (rowOf _ B) ?_) (Fin.ext ?_))
      · show (64 + c.val) / 64 = c.val / 64 + 1; omega
      · show (64 + c.val) % 64 = c.val % 64; omega
    · refine (cat_apply m d hr _ B _ (by show B.val = 256 * (B.val / 256) + B.val % 256; omega)).trans ?_
      unfold embed
      refine congrArg _ (congrArg₂ ix2 (congrArg (rowOf _ B) ?_) (Fin.ext ?_))
      · show (128 + c.val) / 64 = c.val / 64 + 2; omega
      · show (128 + c.val) % 64 = c.val % 64; omega
  · rw [W4_v11, W3_of m d main_arg2 (by decide) (by decide), W1_arg m d main_arg2 (by simp)]; rfl
  · rw [W4_v13, W3_of m d main_arg3 (by decide) (by decide), W1_arg m d main_arg3 (by simp)]
    exact shapeCast_apply _ _ _ _ (by show ((S1024).rowMajor (ix1 h)).val = ((S1x1024).rowMajor _).val; rw [rowMajor_val2 _ 1024 rfl, rowMajor_val1]; show h.val = 0 * 1024 + h.val; omega)
  · rw [W4_v12, W3_of m d main_arg4 (by decide) (by decide), W1_arg m d main_arg4 (by simp)]; rfl
  · rw [W4_v14, W3_of m d main_arg5 (by decide) (by decide), W1_arg m d main_arg5 (by simp)]
    exact shapeCast_apply _ _ _ _ (by show ((S1000).rowMajor (ix1 n)).val = ((S1x1000).rowMajor _).val; rw [rowMajor_val2 _ 1000 rfl, rowMajor_val1]; show n.val = 0 * 1000 + n.val; omega)

end Value

end Cert.Proof.Gather
-- ==== Proof.Plain.lean ====
/-
  What the reference computes, over the reals, entry by entry.
-/
module

public import proofs.«01_k».proof.Proof.Spec
public import proofs.«01_k».proof.Proof.Gen.ReferenceIdeal.Run
public import Idealize.ShloMosaic.Lib.Pointwise
public import Idealize.ShloMosaic.Lib.KernelVsHost
public import Idealize.ShloMosaic.Lib.ReduceAll

@[expose] public section

noncomputable section

namespace Cert.Proof.Plain

open Cert.ReferenceIdeal Cert.ReferenceIdeal.Facts₀ Cert.ReferenceIdeal.Facts
open Cert.Proof.Gather (rowOf embed pooled hiddenRow answer)
open Idealize.ShloMosaic Idealize.ShloMosaic.TcCoe

/-- The word of minus infinity. -/
theorem minus_inf : Ideal.ofBits .f32 0xFF800000#32 = ⊥ := by
  simp [Ideal.ofBits, Ideal.ieee]

section Words

variable (X : S4096x50.Idx → BitVec 32)

/-- The sentences with two zeros at both ends, -/
def padded : S4096x54.Idx → BitVec 32 :=
  pad S4096x54 ![0, 2] ![0, 2] ![0, 0] X (id (constantI S_ 32 0#32)) pads_S4096x50_S4096x54_000_220 h_S_

/-- with negative words counted from the end, -/
def wrapped : S4096x54.Idx → BitVec 32 :=
  select (cmpi .slt (padded X) (broadcastInDim S4096x54 ![] bcast_S_S4096x54 (constantI S_ 32 0#32)))
    (addi (padded X) (broadcastInDim S4096x54 ![] bcast_S_S4096x54 (constantI S_ 32 1000000#32))) (padded X)

/-- as a gather's starts; -/
def starts : S4096x54x1.Idx → BitVec 32 := broadcastInDim S4096x54x1 ![0, 1] bcast_S4096x54_S4096x54x1_0_1 (wrapped X)

/-- which of them name a row; -/
def inside : S4096x54.Idx → BitVec 1 :=
  Host.reduce IntOp.andi
    (andi (cmpi .sge (starts X) (broadcastInDim S4096x54x1 ![] bcast_S_S4096x54x1 (constantI S_ 32 0#32)))
      (cmpi .sle (starts X) (broadcastInDim S4096x54x1 ![0, 1, 2] bcast_S1x1x1_S4096x54x1_0_1_2 (broadcastInDim S1x1x1 ![2] bcast_S1_S1x1x1_2 (constantI S1 32 999999#32)))))
    (constantI S_ 1 1#1) reducesTo_S4096x54x1_S4096x54_d2 h_S_

variable (T : S1000000x64.Idx → Ideal .f32)

/-- the rows they name; -/
def taken : S4096x54x64.Idx → Ideal .f32 :=
  select (broadcastInDim S4096x54x64 ![0, 1] bcast_S4096x54_S4096x54x64_0_1 (inside X))
    (Host.gather gather_S1000000x64_S4096x54x1_S4096x54x64_2_0_n_n_0_2_164 T (starts X))
    (broadcastInDim S4096x54x64 ![] bcast_S_S4096x54x64 (constant S_ .f32 0x7FC00000#32))

/-- three shifted copies, one on the other; -/
def stacked : S3x4096x52x64.Idx → Ideal .f32 :=
  concatenate S3x4096x52x64 0
    [⟨S1x4096x52x64, broadcastInDim S1x4096x52x64 ![1, 2, 3] bcast_S4096x52x64_S1x4096x52x64_1_2_3 (extractStridedSlice S4096x52x64 ![0, 0, 0] (taken X T) slices_S4096x54x64_S4096x52x64_0_0_0)⟩,
     ⟨S1x4096x52x64, broadcastInDim S1x4096x52x64 ![1, 2, 3] bcast_S4096x52x64_S1x4096x52x64_1_2_3 (extractStridedSlice S4096x52x64 ![0, 1, 0] (taken X T) slices_S4096x54x64_S4096x52x64_0_1_0)⟩,
     ⟨S1x4096x52x64, broadcastInDim S1x4096x52x64 ![1, 2, 3] bcast_S4096x52x64_S1x4096x52x64_1_2_3 (extractStridedSlice S4096x52x64 ![0, 2, 0] (taken X T) slices_S4096x54x64_S4096x52x64_0_2_0)⟩]
    concatenates_S1x4096x52x64_S1x4096x52x64_S1x4096x52x64_S3x4096x52x64_d0

/-- their maximum, row by row, flattened. -/
def flatR : S4096x3328.Idx → Ideal .f32 :=
  shapeCast S4096x3328 (Host.reduce FloatOps.maximumf (stacked X T) (constant S_ .f32 0xFF800000#32) reducesTo_S3x4096x52x64_S4096x52x64_d0 h_S_) shapeCasts_S4096x52x64_S4096x3328

variable (hX : ∀ i, (X i).toNat < 1000000)
include hX

/-- A padded word is its table row's number. -/
theorem padded_apply (B : Fin 4096) (q : Fin 54) : (padded X (ix2 B q)).toNat = (rowOf X B q.val).val := by
  unfold padded rowOf
  by_cases h : 2 ≤ q.val ∧ q.val < 52
  · rw [dif_pos h]
    rw [pad_apply_of_inside _ _ _ _ _ _ _ _ (ix2 B (⟨q.val - 2, by omega⟩ : Fin 50)) (by
      intro a
      match a with
      | ⟨0, _⟩ => show B.val = 0 + B.val * (0 + 1); omega
      | ⟨1, _⟩ => show q.val = 2 + (q.val - 2) * (0 + 1); omega)]
    exact (Nat.mod_eq_of_lt (hX _)).symm
  · rw [dif_neg h]
    rw [pad_apply_of_not_inside _ _ _ _ _ _ _ _ 1 (by
      show ¬ (2 ≤ q.val ∧ (q.val - 2) % (0 + 1) = 0 ∧ (q.val - 2) / (0 + 1) < 50)
      omega)]
    rfl

/-- Padded indices are in range too. -/
theorem padded_lt (B : Fin 4096) (q : Fin 54) : (padded X (ix2 B q)).toNat < 1000000 := by
  rw [padded_apply X hX]; exact (rowOf X B q.val).isLt

/-- No word is negative. -/
theorem wrapped_apply (B : Fin 4096) (q : Fin 54) : wrapped X (ix2 B q) = padded X (ix2 B q) := by
  have h := padded_lt X hX B q
  unfold wrapped
  show Scalar.select (IntOp.cmpi .slt (padded X (ix2 B q)) 0#32) _ _ = _
  have e : IntOp.cmpi .slt (padded X (ix2 B q)) 0#32 = 0#1 := by
    unfold IntOp.cmpi
    have : BitVec.slt (padded X (ix2 B q)) 0#32 = false := by
      rw [BitVec.slt_eq_decide]
      simp only [BitVec.toInt_eq_toNat_cond, BitVec.toNat_ofNat, decide_eq_false_iff_not]
      omega
    simp only [this]; rfl
  rw [e]
  rfl

/-- A lookup starts at the padded index. -/
theorem starts_apply (i : S4096x54x1.Idx) : starts X i = padded X (ix2 (i 0) (i 1)) := by
  unfold starts
  exact (broadcastInDim_apply _ _ _ i (ix2 (i 0) (i 1)) (by intro a; fin_cases a <;> rfl)).trans (wrapped_apply X hX (i 0) (i 1))

/-- Every word names a row. -/
theorem inside_apply (i : S4096x54.Idx) : inside X i = 1#1 := by
  refine Host.reduce_andi_one _ _ _ _ _ rfl fun k => ?_
  have h := padded_lt X hX (k 0) (k 1)
  show IntOp.andi (IntOp.cmpi .sge (starts X k) 0#32) (IntOp.cmpi .sle (starts X k) 999999#32) = 1#1
  rw [starts_apply X hX k]
  generalize padded X (ix2 (k 0) (k 1)) = w at h ⊢
  have e1 : BitVec.sle 0#32 w = true := by
    rw [BitVec.sle_eq_decide]
    simp only [BitVec.toInt_eq_toNat_cond, BitVec.toNat_ofNat, decide_eq_true_eq]
    omega
  have e2 : BitVec.sle w 999999#32 = true := by
    rw [BitVec.sle_eq_decide]
    simp only [BitVec.toInt_eq_toNat_cond, BitVec.toNat_ofNat, decide_eq_true_eq]
    omega
  unfold IntOp.cmpi
  simp only [e1, e2]
  rfl

/-- The gather, at an entry. -/
theorem gather_apply (B : Fin 4096) (q : Fin 54) (e : Fin 64) :
    Host.gather gather_S1000000x64_S4096x54x1_S4096x54x64_2_0_n_n_0_2_164 T (starts X) (ix3 B q e) = embed X T B q.val e := by
  unfold Host.gather embed
  refine congrArg T (funext fun a => Fin.ext ?_)
  have hb (a : Fin 2) : a ∉ (gather_S1000000x64_S4096x54x1_S4096x54x64_2_0_n_n_0_2_164).operandBatchingDims := List.not_mem_nil
  match a with
  | ⟨0, _⟩ =>
    show (gather_S1000000x64_S4096x54x1_S4096x54x64_2_0_n_n_0_2_164).start (ix3 B q e) (starts X) 0
      + (gather_S1000000x64_S4096x54x1_S4096x54x64_2_0_n_n_0_2_164).batchCoord (ix3 B q e) 0
      + (gather_S1000000x64_S4096x54x1_S4096x54x64_2_0_n_n_0_2_164).offCoord (ix3 B q e) 0 = (rowOf X B q.val).val
    rw [GatherDims.batchCoord_eq_zero _ _ _ (hb 0), GatherDims.offCoord_eq_zero _ _ _ (by decide)]
    unfold GatherDims.start
    rw [dif_pos (show (0 : Fin 2) ∈ (gather_S1000000x64_S4096x54x1_S4096x54x64_2_0_n_n_0_2_164).startIndexMap by decide)]
    rw [starts_apply X hX]
    have hi : (gather_S1000000x64_S4096x54x1_S4096x54x64_2_0_n_n_0_2_164).siIdx (ix3 B q e) ⟨(gather_S1000000x64_S4096x54x1_S4096x54x64_2_0_n_n_0_2_164).startIndexMap.idxOf 0, List.idxOf_lt_length_iff.2 (by decide)⟩ = ix3 B q (0 : Fin 1) := by
      funext b
      refine Fin.ext ?_
      match b with
      | ⟨0, _⟩ => rfl
      | ⟨1, _⟩ => rfl
      | ⟨2, _⟩ => rfl
    rw [hi]
    have h := padded_lt X hX B q
    rw [← padded_apply X hX B q]
    show min (padded X (ix2 B q)).toInt.toNat (1000000 - 1) + 0 + 0 = _
    rw [BitVec.toInt_eq_toNat_cond]
    omega
  | ⟨1, _⟩ =>
    show (gather_S1000000x64_S4096x54x1_S4096x54x64_2_0_n_n_0_2_164).start (ix3 B q e) (starts X) 1
      + (gather_S1000000x64_S4096x54x1_S4096x54x64_2_0_n_n_0_2_164).batchCoord (ix3 B q e) 1
      + (gather_S1000000x64_S4096x54x1_S4096x54x64_2_0_n_n_0_2_164).offCoord (ix3 B q e) 1 = e.val
    rw [GatherDims.batchCoord_eq_zero _ _ _ (hb 1)]
    unfold GatherDims.start GatherDims.offCoord
    rw [dif_neg (show (1 : Fin 2) ∉ (gather_S1000000x64_S4096x54x1_S4096x54x64_2_0_n_n_0_2_164).startIndexMap by decide), dif_pos (by decide)]
    show 0 + 0 + e.val = e.val
    omega

/-- The rows taken are the table's. -/
theorem taken_apply (B : Fin 4096) (q : Fin 54) (e : Fin 64) : taken X T (ix3 B q e) = embed X T B q.val e := by
  unfold taken
  show Scalar.select (broadcastInDim S4096x54x64 ![0, 1] bcast_S4096x54_S4096x54x64_0_1 (inside X) (ix3 B q e)) _ _ = _
  rw [broadcastInDim_apply _ _ _ (ix3 B q e) (ix2 B q) (by intro a; fin_cases a <;> rfl), inside_apply X hX]
  exact gather_apply X T hX B q e

/-- The stack, at an entry. -/
theorem stacked_apply (k : Fin 3) (B : Fin 4096) (q : Fin 52) (e : Fin 64) : stacked X T (ix4 k B q e) = embed X T B (q.val + k.val) e := by
  have piece (n : Fin 3) (hs : S4096x54x64.Slices ![0, n.val, 0] S4096x52x64) (z : S1x4096x52x64.Idx) (h1 : z 1 = B) (h2 : z 2 = q) (h3 : z 3 = e) :
      broadcastInDim S1x4096x52x64 ![1, 2, 3] bcast_S4096x52x64_S1x4096x52x64_1_2_3 (extractStridedSlice S4096x52x64 ![0, n.val, 0] (taken X T) hs) z
        = embed X T B (q.val + n.val) e := by
    rw [broadcastInDim_apply _ _ _ z (ix3 B q e) (by
      intro a
      match a with
      | ⟨0, _⟩ => exact (congrArg Fin.val h1).symm
      | ⟨1, _⟩ => exact (congrArg Fin.val h2).symm
      | ⟨2, _⟩ => exact (congrArg Fin.val h3).symm)]
    have hq := q.isLt
    have hn := n.isLt
    have e1 : extractStridedSlice S4096x52x64 ![0, n.val, 0] (taken X T) hs (ix3 B q e) = taken X T (ix3 B (⟨n.val + q.val, by omega⟩ : Fin 54) e) := by
      unfold extractStridedSlice
      refine congrArg _ (funext fun a => Fin.ext ?_)
      match a with
      | ⟨0, _⟩ => exact Nat.zero_add _
      | ⟨1, _⟩ => rfl
      | ⟨2, _⟩ => exact Nat.zero_add _
    rw [e1, taken_apply X T hX]
    exact congrArg (fun t => embed X T B t e) (Nat.add_comm _ _)
  unfold stacked
  rw [concatenate_apply]
  fin_cases k
  · exact (concatenateAt_cons _ _ _ _ _ _ _ _).trans ((dif_pos (show (0 : ℕ) < 1 by decide)).trans (piece 0 _ _ rfl rfl rfl))
  · refine (concatenateAt_cons _ _ _ _ _ _ _ _).trans ((dif_neg (show ¬ (1 : ℕ) < 1 by decide)).trans ?_)
    exact (concatenateAt_cons _ _ _ _ _ _ _ _).trans ((dif_pos (show (1 : ℕ) - 1 < 1 by decide)).trans (piece 1 _ _ rfl rfl rfl))
  · refine (concatenateAt_cons _ _ _ _ _ _ _ _).trans ((dif_neg (show ¬ (2 : ℕ) < 1 by decide)).trans ?_)
    refine (concatenateAt_cons _ _ _ _ _ _ _ _).trans ((dif_neg (show ¬ (2 : ℕ) - 1 < 1 by decide)).trans ?_)
    exact (concatenateAt_singleton _ _ _ _ _ _).trans (piece 2 _ _ rfl rfl rfl)

/-- The flattened maxima. -/
theorem flatR_apply (B : Fin 4096) (c : Fin 3328) : flatR X T (ix2 B c) = pooled X T B c.val := by
  have hc := c.isLt
  unfold flatR
  rw [shapeCast_apply _ _ _ (ix3 B (⟨c.val / 64, by omega⟩ : Fin 52) (⟨c.val % 64, Nat.mod_lt _ (by decide)⟩ : Fin 64)) (by
    rw [rowMajor_val2 _ 3328 rfl, rowMajor_val3 _ 3328 64 rfl rfl]
    show B.val * 3328 + c.val / 64 * 64 + c.val % 64 = B.val * 3328 + c.val
    omega)]
  have hred : S3x4096x52x64.Reduces [0] S4096x52x64 := by decide
  rw [Host.reduce_eq_fold_single _ _ _ _ hred]
  have hl (k : Fin 3) : hred.lift (ix3 B (⟨c.val / 64, by omega⟩ : Fin 52) (⟨c.val % 64, Nat.mod_lt _ (by decide)⟩ : Fin 64)) k
      = ix4 k B (⟨c.val / 64, by omega⟩ : Fin 52) (⟨c.val % 64, Nat.mod_lt _ (by decide)⟩ : Fin 64) := by
    funext a
    refine Fin.ext ?_
    refine (hred.lift_val _ k a).trans ?_
    match a with
    | ⟨0, _⟩ => rfl
    | ⟨1, _⟩ => rfl
    | ⟨2, _⟩ => rfl
    | ⟨3, _⟩ => rfl
  have hx : (stacked X T ∘ hred.lift (ix3 B (⟨c.val / 64, by omega⟩ : Fin 52) (⟨c.val % 64, Nat.mod_lt _ (by decide)⟩ : Fin 64)))
      = fun k : Fin 3 => (embed X T B (c.val / 64 + k.val) ⟨c.val % 64, Nat.mod_lt _ (by decide)⟩ : EReal) := by
    funext k
    show stacked X T (hred.lift _ k) = _
    rw [hl k]
    exact stacked_apply X T hX k B _ _
  rw [hx]
  show (Finset.univ : Finset (Fin 3)).fold max (Ideal.ofBits .f32 0xFF800000#32) _ = _
  rw [show Ideal.ofBits .f32 0xFF800000#32 = ⊥ from minus_inf,
    show (Finset.univ : Finset (Fin 3)) = Finset.cons 0 (Finset.cons 1 (Finset.cons 2 ∅ (by decide)) (by decide)) (by decide) from rfl,
    Finset.fold_cons, Finset.fold_cons, Finset.fold_cons, Finset.fold_empty, max_bot_right, ← max_assoc]
  rfl

end Words

section Result

/-- The two layers over flattened rows. -/
def layersR (f : S4096x3328.Idx → Ideal .f32) (V₁ : S3328x1024.Idx → Ideal .f32) (u₁ : S1024.Idx → Ideal .f32) (V₂ : S1024x1000.Idx → Ideal .f32) (u₂ : S1000.Idx → Ideal .f32) :
    S4096x1000.Idx → Ideal .f32 :=
  addf (Host.dotGeneral dot_S4096x1024_S1024x1000_S4096x1000_1_0_0_1_n_n none
      (maximumf (addf (Host.dotGeneral dot_S4096x3328_S3328x1024_S4096x1024_1_0_0_1_n_n none f V₁)
          (broadcastInDim S4096x1024 ![0, 1] bcast_S1x1024_S4096x1024_0_1 (broadcastInDim S1x1024 ![1] bcast_S1024_S1x1024_1 u₁)))
        (broadcastInDim S4096x1024 ![] bcast_S_S4096x1024 (constant S_ .f32 0x00000000#32))) V₂)
    (broadcastInDim S4096x1000 ![0, 1] bcast_S1x1000_S4096x1000_0_1 (broadcastInDim S1x1000 ![1] bcast_S1000_S1x1000_1 u₂))

/-- The same, at an entry. -/
theorem layersR_apply (f : S4096x3328.Idx → Ideal .f32) (V₁ : S3328x1024.Idx → Ideal .f32) (u₁ : S1024.Idx → Ideal .f32) (V₂ : S1024x1000.Idx → Ideal .f32) (u₂ : S1000.Idx → Ideal .f32)
    (B : Fin 4096) (n : Fin 1000) :
    layersR f V₁ u₁ V₂ u₂ (ix2 B n) = (∑ h : Fin 1024, max ((∑ c : Fin 3328, f (ix2 B c) * V₁ (ix2 c h)) + u₁ (ix1 h)) 0 * V₂ (ix2 h n)) + u₂ (ix1 n) := by
  pointwise [layersR]

/-- Two layers over pooled rows are the answer. -/
theorem answer_eq (X : S4096x50.Idx → BitVec 32) (T : S1000000x64.Idx → EReal) (V₁ : S3328x1024.Idx → EReal) (u₁ : S1024.Idx → EReal)
    (V₂ : S1024x1000.Idx → EReal) (u₂ : S1000.Idx → EReal) (B : Fin 4096) (n : Fin 1000) (f : S4096x3328.Idx → EReal)
    (hf : ∀ k : Fin 3328, f (ix2 B k) = pooled X T B k.val) :
    (∑ h : Fin 1024, max ((∑ c : Fin 3328, f (ix2 B c) * V₁ (ix2 c h)) + u₁ (ix1 h)) 0 * V₂ (ix2 h n)) + u₂ (ix1 n)
      = answer X T V₁ u₁ V₂ u₂ B n := by
  simp only [hf, answer, hiddenRow]

/-- What the reference leaves in its result, entry by entry. -/
theorem reference_value (m : (ℓ : Loc nD τ sig) → Buf (Elt Ideal) ℓ) (c : Dev nD)
    (hX : ∀ i : S4096x50.Idx, ((m ((c.tc : Thread nD τ).loc main_arg0) : S4096x50.Idx → BitVec 32) i).toNat < 1000000) (B : Fin 4096) (n : Fin 1000) :
    (Cert.ReferenceIdeal.Value.res_main_v19 (F := Ideal) m c : S4096x1000.Idx → EReal) (ix2 B n)
      = answer (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) B n := by
  have e : (Cert.ReferenceIdeal.Value.res_main_v19 (F := Ideal) m c : S4096x1000.Idx → EReal)
      = layersR (flatR (m ((c.tc : Thread nD τ).loc main_arg0)) (m ((c.tc : Thread nD τ).loc main_arg1))) (m ((c.tc : Thread nD τ).loc main_arg2)) (m ((c.tc : Thread nD τ).loc main_arg3))
        (m ((c.tc : Thread nD τ).loc main_arg4)) (m ((c.tc : Thread nD τ).loc main_arg5)) := rfl
  rw [e]
  exact (layersR_apply _ _ _ _ _ B n).trans (answer_eq _ _ _ _ _ _ B n _ fun k => flatR_apply _ _ hX B k)

end Result

end Cert.Proof.Plain
-- ==== Proof.Equal.lean ====
/-
  The kernel's result and the reference's are the same, over the reals.
-/
module

public import proofs.«01_k».proof.Proof.Ends
public import proofs.«01_k».proof.Proof.Layers
public import proofs.«01_k».proof.Proof.Plain

@[expose] public section

noncomputable section

namespace Cert.Proof.Gather

open Cert.KernelIdeal Cert.KernelIdeal.Gen

open Idealize.ShloMosaic
open Idealize.ShloMosaic.TcCoe
open Idealize.SL Idealize.SL.Sem

/-- The reference runs from the kernel's arguments too. -/
theorem frame_reference_pre : Cert.quiescent_ReferenceIdeal_pre_in_range := fun m ρ _ => frame_reference m ρ trivial

/-- Two results that are the answer at every entry are equal. -/
theorem answer_unique (X : S4096x50.Idx → BitVec 32) (T : S1000000x64.Idx → EReal) (V₁ : S3328x1024.Idx → EReal) (u₁ : S1024.Idx → EReal)
    (V₂ : S1024x1000.Idx → EReal) (u₂ : S1000.Idx → EReal) (f g : S4096x1000.Idx → EReal)
    (hf : ∀ B n, f (ix2 B n) = answer X T V₁ u₁ V₂ u₂ B n) (hg : ∀ B n, g (ix2 B n) = answer X T V₁ u₁ V₂ u₂ B n) : f = g := by
  funext y
  rw [eq_ix2 y]
  exact (hf _ _).trans (hg _ _).symm

/-- From arguments that agree, the reference's result is the kernel's. -/
theorem results_eq (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hr : ∀ i, ((arg m c main_arg0 : S4096x50.Idx → BitVec 32) i).toNat < 1000000)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5)) :
    (Cert.ReferenceIdeal.Value.res_main_v19 (F := Ideal) m' c : S4096x1000.Idx → EReal) = (W5 m c (Proc.devRef .tc main_v15) : S4096x1000.Idx → EReal) := by
  refine answer_unique (arg m c main_arg0) (arg m c main_arg1) (arg m c main_arg2) (arg m c main_arg3) (arg m c main_arg4) (arg m c main_arg5)
    _ _ (fun B n => ?_) (fun B n => kernel_value m c hr B n)
  have h := Cert.Proof.Plain.reference_value m' c (fun i => by rw [e0]; exact hr i) B n
  rw [e0, e1, e2, e3, e4, e5] at h
  exact h

/-- Over the reals the kernel and the reference, from arguments that agree and lie in range, end with equal results. -/
theorem algebraic : Cert.algebraic_KernelIdeal_ReferenceIdeal := fun m g m' g' hpre hagree =>
  ⟨fun c => W5 m c (Proc.devRef .tc main_v15),
    (θ_run Cert.KernelIdeal.defs _ _).mono (fun _ h c => ⟨h.1 c _ (mem_hostRefs main_v15 (by simp)), QC_args m h c⟩)
      (run_main (F := Ideal) m g fun d => nums_lt m d (in_range_apply _ _ _ _ _ _ (hpre d))),
    (θ_run Cert.ReferenceIdeal.defs _ _).mono
      (fun _ h c => ⟨(h c).1.trans (results_eq m m' c (in_range_apply _ _ _ _ _ _ (hpre c)) (hagree c).1 (hagree c).2.1 (hagree c).2.2.1
        (hagree c).2.2.2.1 (hagree c).2.2.2.2.1 (hagree c).2.2.2.2.2), (h c).2⟩)
      (Cert.ReferenceIdeal.Value.run (F := Ideal) m' g')⟩

end Cert.Proof.Gather
-- ==== Proof.lean ====
/-
  The certificate's claim: the kernel's runs, the reference's run, and what they have to do with each other.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim :=
  ⟨Cert.Kernel.Gen.facts, Cert.KernelIdeal.Gen.facts, Cert.ReferenceIdeal.Gen.facts, Cert.Pre_in_range.Gen.facts,
    Gather.frame_kernel, Gather.frame_ideal, Gather.frame_reference, Gather.frame_reference_pre, trivial, Gather.algebraic⟩

end Cert.Proof

end
